-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S384x1024 : Shape := ⟨2, ![384, 1024]⟩
abbrev S256x1024 : Shape := ⟨2, ![256, 1024]⟩
abbrev S192x1024 : Shape := ⟨2, ![192, 1024]⟩
abbrev S128x1024 : Shape := ⟨2, ![128, 1024]⟩
abbrev S96x1024 : Shape := ⟨2, ![96, 1024]⟩
abbrev S64x1024 : Shape := ⟨2, ![64, 1024]⟩
abbrev S48x1024 : Shape := ⟨2, ![48, 1024]⟩
abbrev S32x1024 : Shape := ⟨2, ![32, 1024]⟩
abbrev S12x6 : Shape := ⟨2, ![12, 6]⟩
abbrev S12 : Shape := ⟨1, ![12]⟩
abbrev S12x4 : Shape := ⟨2, ![12, 4]⟩
abbrev S1 : Shape := ⟨1, ![1]⟩
abbrev S_ : Shape := ⟨0, ![]⟩
abbrev S1x1 : Shape := ⟨2, ![1, 1]⟩

abbrev nBuf : Space → Nat
  | .hbm => 2
  | .vmem => 132
  | .smem => 0
  | _ => 0

abbrev vmemTy0_0 (i : Nat) : BufTy := match i % 128 with
  | 0 => ⟨S384x1024, .f32⟩
  | 1 => ⟨S384x1024, .f32⟩
  | 2 => ⟨S384x1024, .f32⟩
  | 3 => ⟨S384x1024, .f32⟩
  | 4 => ⟨S384x1024, .f32⟩
  | 5 => ⟨S384x1024, .f32⟩
  | 6 => ⟨S384x1024, .f32⟩
  | 7 => ⟨S384x1024, .f32⟩
  | 8 => ⟨S256x1024, .f32⟩
  | 9 => ⟨S256x1024, .f32⟩
  | 10 => ⟨S256x1024, .f32⟩
  | 11 => ⟨S256x1024, .f32⟩
  | 12 => ⟨S384x1024, .f32⟩
  | 13 => ⟨S384x1024, .f32⟩
  | 14 => ⟨S384x1024, .f32⟩
  | 15 => ⟨S384x1024, .f32⟩
  | 16 => ⟨S384x1024, .f32⟩
  | 17 => ⟨S384x1024, .f32⟩
  | 18 => ⟨S384x1024, .f32⟩
  | 19 => ⟨S384x1024, .f32⟩
  | 20 => ⟨S256x1024, .f32⟩
  | 21 => ⟨S256x1024, .f32⟩
  | 22 => ⟨S256x1024, .f32⟩
  | 23 => ⟨S256x1024, .f32⟩
  | 24 => ⟨S192x1024, .bf16⟩
  | 25 => ⟨S192x1024, .bf16⟩
  | 26 => ⟨S192x1024, .bf16⟩
  | 27 => ⟨S192x1024, .bf16⟩
  | 28 => ⟨S192x1024, .bf16⟩
  | 29 => ⟨S192x1024, .bf16⟩
  | 30 => ⟨S192x1024, .bf16⟩
  | 31 => ⟨S192x1024, .bf16⟩
  | 32 => ⟨S128x1024, .bf16⟩
  | 33 => ⟨S128x1024, .bf16⟩
  | 34 => ⟨S128x1024, .bf16⟩
  | 35 => ⟨S128x1024, .bf16⟩
  | 36 => ⟨S192x1024, .bf16⟩
  | 37 => ⟨S192x1024, .bf16⟩
  | 38 => ⟨S192x1024, .bf16⟩
  | 39 => ⟨S192x1024, .bf16⟩
  | 40 => ⟨S192x1024, .bf16⟩
  | 41 => ⟨S192x1024, .bf16⟩
  | 42 => ⟨S192x1024, .bf16⟩
  | 43 => ⟨S192x1024, .bf16⟩
  | 44 => ⟨S128x1024, .bf16⟩
  | 45 => ⟨S128x1024, .bf16⟩
  | 46 => ⟨S128x1024, .bf16⟩
  | 47 => ⟨S128x1024, .bf16⟩
  | 48 => ⟨S96x1024, .f32⟩
  | 49 => ⟨S96x1024, .f32⟩
  | 50 => ⟨S96x1024, .f32⟩
  | 51 => ⟨S96x1024, .f32⟩
  | 52 => ⟨S96x1024, .f32⟩
  | 53 => ⟨S96x1024, .f32⟩
  | 54 => ⟨S96x1024, .f32⟩
  | 55 => ⟨S96x1024, .f32⟩
  | 56 => ⟨S64x1024, .f32⟩
  | 57 => ⟨S64x1024, .f32⟩
  | 58 => ⟨S64x1024, .f32⟩
  | 59 => ⟨S64x1024, .f32⟩
  | 60 => ⟨S96x1024, .bf16⟩
  | 61 => ⟨S96x1024, .bf16⟩
  | 62 => ⟨S96x1024, .bf16⟩
  | 63 => ⟨S96x1024, .bf16⟩
  | 64 => ⟨S96x1024, .bf16⟩
  | 65 => ⟨S96x1024, .bf16⟩
  | 66 => ⟨S96x1024, .bf16⟩
  | 67 => ⟨S96x1024, .bf16⟩
  | 68 => ⟨S64x1024, .bf16⟩
  | 69 => ⟨S64x1024, .bf16⟩
  | 70 => ⟨S64x1024, .bf16⟩
  | 71 => ⟨S64x1024, .bf16⟩
  | 72 => ⟨S96x1024, .bf16⟩
  | 73 => ⟨S96x1024, .bf16⟩
  | 74 => ⟨S96x1024, .bf16⟩
  | 75 => ⟨S96x1024, .bf16⟩
  | 76 => ⟨S96x1024, .bf16⟩
  | 77 => ⟨S96x1024, .bf16⟩
  | 78 => ⟨S96x1024, .bf16⟩
  | 79 => ⟨S96x1024, .bf16⟩
  | 80 => ⟨S64x1024, .bf16⟩
  | 81 => ⟨S64x1024, .bf16⟩
  | 82 => ⟨S64x1024, .bf16⟩
  | 83 => ⟨S64x1024, .bf16⟩
  | 84 => ⟨S48x1024, .bf16⟩
  | 85 => ⟨S48x1024, .bf16⟩
  | 86 => ⟨S48x1024, .bf16⟩
  | 87 => ⟨S48x1024, .bf16⟩
  | 88 => ⟨S48x1024, .bf16⟩
  | 89 => ⟨S48x1024, .bf16⟩
  | 90 => ⟨S48x1024, .bf16⟩
  | 91 => ⟨S48x1024, .bf16⟩
  | 92 => ⟨S32x1024, .bf16⟩
  | 93 => ⟨S32x1024, .bf16⟩
  | 94 => ⟨S32x1024, .bf16⟩
  | 95 => ⟨S32x1024, .bf16⟩
  | 96 => ⟨S48x1024, .bf16⟩
  | 97 => ⟨S48x1024, .bf16⟩
  | 98 => ⟨S48x1024, .bf16⟩
  | 99 => ⟨S48x1024, .bf16⟩
  | 100 => ⟨S48x1024, .bf16⟩
  | 101 => ⟨S48x1024, .bf16⟩
  | 102 => ⟨S48x1024, .bf16⟩
  | 103 => ⟨S48x1024, .bf16⟩
  | 104 => ⟨S32x1024, .bf16⟩
  | 105 => ⟨S32x1024, .bf16⟩
  | 106 => ⟨S32x1024, .bf16⟩
  | 107 => ⟨S32x1024, .bf16⟩
  | 108 => ⟨S192x1024, .bf16⟩
  | 109 => ⟨S192x1024, .bf16⟩
  | 110 => ⟨S192x1024, .bf16⟩
  | 111 => ⟨S192x1024, .bf16⟩
  | 112 => ⟨S192x1024, .bf16⟩
  | 113 => ⟨S192x1024, .bf16⟩
  | 114 => ⟨S192x1024, .bf16⟩
  | 115 => ⟨S192x1024, .bf16⟩
  | 116 => ⟨S128x1024, .bf16⟩
  | 117 => ⟨S128x1024, .bf16⟩
  | 118 => ⟨S128x1024, .bf16⟩
  | 119 => ⟨S128x1024, .bf16⟩
  | 120 => ⟨S192x1024, .bf16⟩
  | 121 => ⟨S192x1024, .bf16⟩
  | 122 => ⟨S192x1024, .bf16⟩
  | 123 => ⟨S192x1024, .bf16⟩
  | 124 => ⟨S192x1024, .bf16⟩
  | 125 => ⟨S192x1024, .bf16⟩
  | 126 => ⟨S192x1024, .bf16⟩
  | 127 => ⟨S192x1024, .bf16⟩
  | _ => ⟨S4096x1024, .f32⟩

abbrev vmemTy0_1 (i : Nat) : BufTy := match i % 128 with
  | 0 => ⟨S128x1024, .bf16⟩
  | 1 => ⟨S128x1024, .bf16⟩
  | 2 => ⟨S128x1024, .bf16⟩
  | 3 => ⟨S128x1024, .bf16⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨i, _⟩ => vmemTy i
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 1 → Bool
  | ⟨0, _⟩ => false
  | _ => false

abbrev dmaSemScoped : Fin 204 → Bool
  | ⟨i, _⟩ => dmaSemScopedAt i

abbrev sig : RefSig :=
  (ofTc nBuf bufTy 1 204 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩
abbrev cc0_scratch25 : Ref sig .tc := ⟨.vmem, 25, rfl⟩
abbrev cc0_scratch26 : Ref sig .tc := ⟨.vmem, 26, rfl⟩
abbrev cc0_scratch27 : Ref sig .tc := ⟨.vmem, 27, rfl⟩
abbrev cc0_scratch28 : Ref sig .tc := ⟨.vmem, 28, rfl⟩
abbrev cc0_scratch29 : Ref sig .tc := ⟨.vmem, 29, rfl⟩
abbrev cc0_scratch30 : Ref sig .tc := ⟨.vmem, 30, rfl⟩
abbrev cc0_scratch31 : Ref sig .tc := ⟨.vmem, 31, rfl⟩
abbrev cc0_scratch32 : Ref sig .tc := ⟨.vmem, 32, rfl⟩
abbrev cc0_scratch33 : Ref sig .tc := ⟨.vmem, 33, rfl⟩
abbrev cc0_scratch34 : Ref sig .tc := ⟨.vmem, 34, rfl⟩
abbrev cc0_scratch35 : Ref sig .tc := ⟨.vmem, 35, rfl⟩
abbrev cc0_scratch36 : Ref sig .tc := ⟨.vmem, 36, rfl⟩
abbrev cc0_scratch37 : Ref sig .tc := ⟨.vmem, 37, rfl⟩
abbrev cc0_scratch38 : Ref sig .tc := ⟨.vmem, 38, rfl⟩
abbrev cc0_scratch39 : Ref sig .tc := ⟨.vmem, 39, rfl⟩
abbrev cc0_scratch40 : Ref sig .tc := ⟨.vmem, 40, rfl⟩
abbrev cc0_scratch41 : Ref sig .tc := ⟨.vmem, 41, rfl⟩
abbrev cc0_scratch42 : Ref sig .tc := ⟨.vmem, 42, rfl⟩
abbrev cc0_scratch43 : Ref sig .tc := ⟨.vmem, 43, rfl⟩
abbrev cc0_scratch44 : Ref sig .tc := ⟨.vmem, 44, rfl⟩
abbrev cc0_scratch45 : Ref sig .tc := ⟨.vmem, 45, rfl⟩
abbrev cc0_scratch46 : Ref sig .tc := ⟨.vmem, 46, rfl⟩
abbrev cc0_scratch47 : Ref sig .tc := ⟨.vmem, 47, rfl⟩
abbrev cc0_scratch48 : Ref sig .tc := ⟨.vmem, 48, rfl⟩
abbrev cc0_scratch49 : Ref sig .tc := ⟨.vmem, 49, rfl⟩
abbrev cc0_scratch50 : Ref sig .tc := ⟨.vmem, 50, rfl⟩
abbrev cc0_scratch51 : Ref sig .tc := ⟨.vmem, 51, rfl⟩
abbrev cc0_scratch52 : Ref sig .tc := ⟨.vmem, 52, rfl⟩
abbrev cc0_scratch53 : Ref sig .tc := ⟨.vmem, 53, rfl⟩
abbrev cc0_scratch54 : Ref sig .tc := ⟨.vmem, 54, rfl⟩
abbrev cc0_scratch55 : Ref sig .tc := ⟨.vmem, 55, rfl⟩
abbrev cc0_scratch56 : Ref sig .tc := ⟨.vmem, 56, rfl⟩
abbrev cc0_scratch57 : Ref sig .tc := ⟨.vmem, 57, rfl⟩
abbrev cc0_scratch58 : Ref sig .tc := ⟨.vmem, 58, rfl⟩
abbrev cc0_scratch59 : Ref sig .tc := ⟨.vmem, 59, rfl⟩
abbrev cc0_scratch60 : Ref sig .tc := ⟨.vmem, 60, rfl⟩
abbrev cc0_scratch61 : Ref sig .tc := ⟨.vmem, 61, rfl⟩
abbrev cc0_scratch62 : Ref sig .tc := ⟨.vmem, 62, rfl⟩
abbrev cc0_scratch63 : Ref sig .tc := ⟨.vmem, 63, rfl⟩
abbrev cc0_scratch64 : Ref sig .tc := ⟨.vmem, 64, rfl⟩
abbrev cc0_scratch65 : Ref sig .tc := ⟨.vmem, 65, rfl⟩
abbrev cc0_scratch66 : Ref sig .tc := ⟨.vmem, 66, rfl⟩
abbrev cc0_scratch67 : Ref sig .tc := ⟨.vmem, 67, rfl⟩
abbrev cc0_scratch68 : Ref sig .tc := ⟨.vmem, 68, rfl⟩
abbrev cc0_scratch69 : Ref sig .tc := ⟨.vmem, 69, rfl⟩
abbrev cc0_scratch70 : Ref sig .tc := ⟨.vmem, 70, rfl⟩
abbrev cc0_scratch71 : Ref sig .tc := ⟨.vmem, 71, rfl⟩
abbrev cc0_scratch72 : Ref sig .tc := ⟨.vmem, 72, rfl⟩
abbrev cc0_scratch73 : Ref sig .tc := ⟨.vmem, 73, rfl⟩
abbrev cc0_scratch74 : Ref sig .tc := ⟨.vmem, 74, rfl⟩
abbrev cc0_scratch75 : Ref sig .tc := ⟨.vmem, 75, rfl⟩
abbrev cc0_scratch76 : Ref sig .tc := ⟨.vmem, 76, rfl⟩
abbrev cc0_scratch77 : Ref sig .tc := ⟨.vmem, 77, rfl⟩
abbrev cc0_scratch78 : Ref sig .tc := ⟨.vmem, 78, rfl⟩
abbrev cc0_scratch79 : Ref sig .tc := ⟨.vmem, 79, rfl⟩
abbrev cc0_scratch80 : Ref sig .tc := ⟨.vmem, 80, rfl⟩
abbrev cc0_scratch81 : Ref sig .tc := ⟨.vmem, 81, rfl⟩
abbrev cc0_scratch82 : Ref sig .tc := ⟨.vmem, 82, rfl⟩
abbrev cc0_scratch83 : Ref sig .tc := ⟨.vmem, 83, rfl⟩
abbrev cc0_scratch84 : Ref sig .tc := ⟨.vmem, 84, rfl⟩
abbrev cc0_scratch85 : Ref sig .tc := ⟨.vmem, 85, rfl⟩
abbrev cc0_scratch86 : Ref sig .tc := ⟨.vmem, 86, rfl⟩
abbrev cc0_scratch87 : Ref sig .tc := ⟨.vmem, 87, rfl⟩
abbrev cc0_scratch88 : Ref sig .tc := ⟨.vmem, 88, rfl⟩
abbrev cc0_scratch89 : Ref sig .tc := ⟨.vmem, 89, rfl⟩
abbrev cc0_scratch90 : Ref sig .tc := ⟨.vmem, 90, rfl⟩
abbrev cc0_scratch91 : Ref sig .tc := ⟨.vmem, 91, rfl⟩
abbrev cc0_scratch92 : Ref sig .tc := ⟨.vmem, 92, rfl⟩
abbrev cc0_scratch93 : Ref sig .tc := ⟨.vmem, 93, rfl⟩
abbrev cc0_scratch94 : Ref sig .tc := ⟨.vmem, 94, rfl⟩
abbrev cc0_scratch95 : Ref sig .tc := ⟨.vmem, 95, rfl⟩
abbrev cc0_scratch96 : Ref sig .tc := ⟨.vmem, 96, rfl⟩
abbrev cc0_scratch97 : Ref sig .tc := ⟨.vmem, 97, rfl⟩
abbrev cc0_scratch98 : Ref sig .tc := ⟨.vmem, 98, rfl⟩
abbrev cc0_scratch99 : Ref sig .tc := ⟨.vmem, 99, rfl⟩
abbrev cc0_scratch100 : Ref sig .tc := ⟨.vmem, 100, rfl⟩
abbrev cc0_scratch101 : Ref sig .tc := ⟨.vmem, 101, rfl⟩
abbrev cc0_scratch102 : Ref sig .tc := ⟨.vmem, 102, rfl⟩
abbrev cc0_scratch103 : Ref sig .tc := ⟨.vmem, 103, rfl⟩
abbrev cc0_scratch104 : Ref sig .tc := ⟨.vmem, 104, rfl⟩
abbrev cc0_scratch105 : Ref sig .tc := ⟨.vmem, 105, rfl⟩
abbrev cc0_scratch106 : Ref sig .tc := ⟨.vmem, 106, rfl⟩
abbrev cc0_scratch107 : Ref sig .tc := ⟨.vmem, 107, rfl⟩
abbrev cc0_scratch108 : Ref sig .tc := ⟨.vmem, 108, rfl⟩
abbrev cc0_scratch109 : Ref sig .tc := ⟨.vmem, 109, rfl⟩
abbrev cc0_scratch110 : Ref sig .tc := ⟨.vmem, 110, rfl⟩
abbrev cc0_scratch111 : Ref sig .tc := ⟨.vmem, 111, rfl⟩
abbrev cc0_scratch112 : Ref sig .tc := ⟨.vmem, 112, rfl⟩
abbrev cc0_scratch113 : Ref sig .tc := ⟨.vmem, 113, rfl⟩
abbrev cc0_scratch114 : Ref sig .tc := ⟨.vmem, 114, rfl⟩
abbrev cc0_scratch115 : Ref sig .tc := ⟨.vmem, 115, rfl⟩
abbrev cc0_scratch116 : Ref sig .tc := ⟨.vmem, 116, rfl⟩
abbrev cc0_scratch117 : Ref sig .tc := ⟨.vmem, 117, rfl⟩
abbrev cc0_scratch118 : Ref sig .tc := ⟨.vmem, 118, rfl⟩
abbrev cc0_scratch119 : Ref sig .tc := ⟨.vmem, 119, rfl⟩
abbrev cc0_scratch120 : Ref sig .tc := ⟨.vmem, 120, rfl⟩
abbrev cc0_scratch121 : Ref sig .tc := ⟨.vmem, 121, rfl⟩
abbrev cc0_scratch122 : Ref sig .tc := ⟨.vmem, 122, rfl⟩
abbrev cc0_scratch123 : Ref sig .tc := ⟨.vmem, 123, rfl⟩
abbrev cc0_scratch124 : Ref sig .tc := ⟨.vmem, 124, rfl⟩
abbrev cc0_scratch125 : Ref sig .tc := ⟨.vmem, 125, rfl⟩
abbrev cc0_scratch126 : Ref sig .tc := ⟨.vmem, 126, rfl⟩
abbrev cc0_scratch127 : Ref sig .tc := ⟨.vmem, 127, rfl⟩
abbrev cc0_scratch128 : Ref sig .tc := ⟨.vmem, 128, rfl⟩
abbrev cc0_scratch129 : Ref sig .tc := ⟨.vmem, 129, rfl⟩
abbrev cc0_scratch130 : Ref sig .tc := ⟨.vmem, 130, rfl⟩
abbrev cc0_scratch131 : Ref sig .tc := ⟨.vmem, 131, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v40 : BitVec 32 := Scalar.xori v2 c1_i32_15
  let c1_i32_17 : BitVec 32 := 1#32
  let v41 : BitVec 32 := Scalar.muli v40 c1_i32_17
  let v42 : BitVec 32 := Scalar.addi c0_i32_18 v41
  v42.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v43 : BitVec 32 := Scalar.xori v2 c3_i32_19
  let c1_i32_21 : BitVec 32 := 1#32
  let v44 : BitVec 32 := Scalar.muli v43 c1_i32_21
  let v45 : BitVec 32 := Scalar.addi c0_i32_22 v44
  v45.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_23 : BitVec 32 := 4#32
  let v46 : BitVec 32 := Scalar.xori v2 c4_i32_23
  let c1_i32_25 : BitVec 32 := 1#32
  let v47 : BitVec 32 := Scalar.muli v46 c1_i32_25
  let v48 : BitVec 32 := Scalar.addi c0_i32_26 v47
  v48.toNat
def k0_off1 (d0 : Dev nD) (c3_i32_28 : BitVec 32) : Fin 2 → Nat :=
  let c1_i32_175 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let v268 : BitVec 32 := Scalar.subi c1_i32_175 v54
  let c192_i32 : BitVec 32 := 192#32
  let v269 : BitVec 32 := Scalar.muli v268 c192_i32
  let v270 : Index := Scalar.indexCast v269
  let c0 : Index := 0#32
  ![v270.toNat, 0]
def k0_dev4 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_178 : BitVec 32 := 1#32
  let v276 : BitVec 32 := Scalar.xori v2 c1_i32_178
  let c1_i32_183 : BitVec 32 := 1#32
  let v277 : BitVec 32 := Scalar.muli v276 c1_i32_183
  let v278 : BitVec 32 := Scalar.addi c0_i32_184 v277
  v278.toNat
def k0_dev5 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v294 : BitVec 32 := Scalar.xori v2 c3_i32_193
  let c1_i32_198 : BitVec 32 := 1#32
  let v295 : BitVec 32 := Scalar.muli v294 c1_i32_198
  let v296 : BitVec 32 := Scalar.addi c0_i32_199 v295
  v296.toNat
def k0_dev6 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v312 : BitVec 32 := Scalar.xori v2 c4_i32_208
  let c1_i32_213 : BitVec 32 := 1#32
  let v313 : BitVec 32 := Scalar.muli v312 c1_i32_213
  let v314 : BitVec 32 := Scalar.addi c0_i32_214 v313
  v314.toNat
def k0_dev7 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_223 : BitVec 32 := 1#32
  let v330 : BitVec 32 := Scalar.xori v2 c1_i32_223
  let c1_i32_228 : BitVec 32 := 1#32
  let v331 : BitVec 32 := Scalar.muli v330 c1_i32_228
  let v332 : BitVec 32 := Scalar.addi c0_i32_229 v331
  v332.toNat
def k0_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_238 : BitVec 32 := 3#32
  let v348 : BitVec 32 := Scalar.xori v2 c3_i32_238
  let c1_i32_243 : BitVec 32 := 1#32
  let v349 : BitVec 32 := Scalar.muli v348 c1_i32_243
  let v350 : BitVec 32 := Scalar.addi c0_i32_244 v349
  v350.toNat
def k0_dev9 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_253 : BitVec 32 := 4#32
  let v366 : BitVec 32 := Scalar.xori v2 c4_i32_253
  let c1_i32_258 : BitVec 32 := 1#32
  let v367 : BitVec 32 := Scalar.muli v366 c1_i32_258
  let v368 : BitVec 32 := Scalar.addi c0_i32_259 v367
  v368.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_268 : BitVec 32 := 1#32
  let v384 : BitVec 32 := Scalar.xori v2 c1_i32_268
  let c1_i32_273 : BitVec 32 := 1#32
  let v385 : BitVec 32 := Scalar.muli v384 c1_i32_273
  let v386 : BitVec 32 := Scalar.addi c0_i32_274 v385
  v386.toNat
def k0_dev11 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_283 : BitVec 32 := 3#32
  let v402 : BitVec 32 := Scalar.xori v2 c3_i32_283
  let c1_i32_288 : BitVec 32 := 1#32
  let v403 : BitVec 32 := Scalar.muli v402 c1_i32_288
  let v404 : BitVec 32 := Scalar.addi c0_i32_289 v403
  v404.toNat
def k0_off2 (d0 : Dev nD) (c4_i32_124 : BitVec 32) : Fin 2 → Nat :=
  let c1_i32_293 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let v412 : BitVec 32 := Scalar.subi c1_i32_293 v198
  let c128_i32 : BitVec 32 := 128#32
  let v413 : BitVec 32 := Scalar.muli v412 c128_i32
  let v414 : Index := Scalar.indexCast v413
  let c0_294 : Index := 0#32
  ![v414.toNat, 0]
def k0_dev12 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_297 : BitVec 32 := 4#32
  let v420 : BitVec 32 := Scalar.xori v2 c4_i32_297
  let c1_i32_302 : BitVec 32 := 1#32
  let v421 : BitVec 32 := Scalar.muli v420 c1_i32_302
  let v422 : BitVec 32 := Scalar.addi c0_i32_303 v421
  v422.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312 : BitVec 32 := 1#32
  let v438 : BitVec 32 := Scalar.xori v2 c1_i32_312
  let c1_i32_317 : BitVec 32 := 1#32
  let v439 : BitVec 32 := Scalar.muli v438 c1_i32_317
  let v440 : BitVec 32 := Scalar.addi c0_i32_318 v439
  v440.toNat
def k0_dev14 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_327 : BitVec 32 := 3#32
  let v456 : BitVec 32 := Scalar.xori v2 c3_i32_327
  let c1_i32_332 : BitVec 32 := 1#32
  let v457 : BitVec 32 := Scalar.muli v456 c1_i32_332
  let v458 : BitVec 32 := Scalar.addi c0_i32_333 v457
  v458.toNat
def k0_dev15 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_342 : BitVec 32 := 4#32
  let v474 : BitVec 32 := Scalar.xori v2 c4_i32_342
  let c1_i32_347 : BitVec 32 := 1#32
  let v475 : BitVec 32 := Scalar.muli v474 c1_i32_347
  let v476 : BitVec 32 := Scalar.addi c0_i32_348 v475
  v476.toNat
def k0_off3 (d0 : Dev nD) (c3_i32_28 : BitVec 32) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_360 : BitVec 32 := 192#32
  let v487 : BitVec 32 := Scalar.muli v54 c192_i32_360
  let c1_i32_361 : BitVec 32 := 1#32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let v488 : BitVec 32 := Scalar.subi c1_i32_361 v60
  let c96_i32 : BitVec 32 := 96#32
  let v489 : BitVec 32 := Scalar.muli v488 c96_i32
  let v490 : BitVec 32 := Scalar.addi v487 v489
  let v491 : Index := Scalar.indexCast v490
  let c0_362 : Index := 0#32
  ![v491.toNat, 0]
def k0_off3_at (r : Fin 3) : BitVec 32 × BitVec 32 :=
  if r.val < 1 then
    (3#32, 1#32)
  else
    if r.val < 2 then
      (2#32, 4#32)
    else
      (4#32, 3#32)
def k0_off4 (d0 : Dev nD) (c1_i32_32 : BitVec 32) : Fin 2 → Nat :=
  let c1_i32_361 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let v488 : BitVec 32 := Scalar.subi c1_i32_361 v60
  let c96_i32 : BitVec 32 := 96#32
  let v489 : BitVec 32 := Scalar.muli v488 c96_i32
  let v493 : Index := Scalar.indexCast v489
  let c0_363 : Index := 0#32
  ![v493.toNat, 0]
def k0_off4_at (r : Fin 3) : BitVec 32 :=
  if r.val < 1 then
    1#32
  else
    if r.val < 2 then
      4#32
    else
      3#32
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_366 : BitVec 32 := 3#32
  let v501 : BitVec 32 := Scalar.xori v2 c3_i32_366
  let c1_i32_371 : BitVec 32 := 1#32
  let v502 : BitVec 32 := Scalar.muli v501 c1_i32_371
  let v503 : BitVec 32 := Scalar.addi c0_i32_372 v502
  v503.toNat
def k0_dev17 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_391 : BitVec 32 := 4#32
  let v528 : BitVec 32 := Scalar.xori v2 c4_i32_391
  let c1_i32_396 : BitVec 32 := 1#32
  let v529 : BitVec 32 := Scalar.muli v528 c1_i32_396
  let v530 : BitVec 32 := Scalar.addi c0_i32_397 v529
  v530.toNat
def k0_dev18 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v555 : BitVec 32 := Scalar.xori v2 c1_i32_416
  let c1_i32_421 : BitVec 32 := 1#32
  let v556 : BitVec 32 := Scalar.muli v555 c1_i32_421
  let v557 : BitVec 32 := Scalar.addi c0_i32_422 v556
  v557.toNat
def k0_off5 (d0 : Dev nD) (c3_i32_28 : BitVec 32) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_423 : BitVec 32 := 192#32
  let v562 : BitVec 32 := Scalar.muli v54 c192_i32_423
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_424 : BitVec 32 := 96#32
  let v563 : BitVec 32 := Scalar.muli v60 c96_i32_424
  let v564 : BitVec 32 := Scalar.addi v562 v563
  let v565 : Index := Scalar.indexCast v564
  let c0_425 : Index := 0#32
  ![v565.toNat, 0]
def k0_off5_at (r : Fin 3) : BitVec 32 × BitVec 32 :=
  if r.val < 1 then
    (3#32, 1#32)
  else
    if r.val < 2 then
      (2#32, 4#32)
    else
      (4#32, 3#32)
def k0_off6 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_424 : BitVec 32 := 96#32
  let v563 : BitVec 32 := Scalar.muli v60 c96_i32_424
  let v567 : Index := Scalar.indexCast v563
  let c0_426 : Index := 0#32
  ![v567.toNat, 0]
def k0_off6_at (r : Fin 3) : BitVec 32 :=
  if r.val < 1 then
    1#32
  else
    if r.val < 2 then
      4#32
    else
      3#32
def k0_dev19 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_459 : BitVec 32 := 3#32
  let v618 : BitVec 32 := Scalar.xori v2 c3_i32_459
  let c1_i32_464 : BitVec 32 := 1#32
  let v619 : BitVec 32 := Scalar.muli v618 c1_i32_464
  let v620 : BitVec 32 := Scalar.addi c0_i32_465 v619
  v620.toNat
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_484 : BitVec 32 := 4#32
  let v645 : BitVec 32 := Scalar.xori v2 c4_i32_484
  let c1_i32_489 : BitVec 32 := 1#32
  let v646 : BitVec 32 := Scalar.muli v645 c1_i32_489
  let v647 : BitVec 32 := Scalar.addi c0_i32_490 v646
  v647.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v672 : BitVec 32 := Scalar.xori v2 c1_i32_509
  let c1_i32_514 : BitVec 32 := 1#32
  let v673 : BitVec 32 := Scalar.muli v672 c1_i32_514
  let v674 : BitVec 32 := Scalar.addi c0_i32_515 v673
  v674.toNat
def k0_dev22 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_552 : BitVec 32 := 3#32
  let v735 : BitVec 32 := Scalar.xori v2 c3_i32_552
  let c1_i32_557 : BitVec 32 := 1#32
  let v736 : BitVec 32 := Scalar.muli v735 c1_i32_557
  let v737 : BitVec 32 := Scalar.addi c0_i32_558 v736
  v737.toNat
def k0_dev23 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_577 : BitVec 32 := 4#32
  let v762 : BitVec 32 := Scalar.xori v2 c4_i32_577
  let c1_i32_582 : BitVec 32 := 1#32
  let v763 : BitVec 32 := Scalar.muli v762 c1_i32_582
  let v764 : BitVec 32 := Scalar.addi c0_i32_583 v763
  v764.toNat
def k0_off7 (d0 : Dev nD) (c4_i32_124 : BitVec 32) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_595 : BitVec 32 := 128#32
  let v775 : BitVec 32 := Scalar.muli v198 c128_i32_595
  let c1_i32_596 : BitVec 32 := 1#32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let v776 : BitVec 32 := Scalar.subi c1_i32_596 v204
  let c64_i32 : BitVec 32 := 64#32
  let v777 : BitVec 32 := Scalar.muli v776 c64_i32
  let v778 : BitVec 32 := Scalar.addi v775 v777
  let v779 : Index := Scalar.indexCast v778
  let c0_597 : Index := 0#32
  ![v779.toNat, 0]
def k0_off7_at (r : Fin 3) : BitVec 32 × BitVec 32 :=
  if r.val < 1 then
    (4#32, 3#32)
  else
    if r.val < 2 then
      (3#32, 1#32)
    else
      (2#32, 4#32)
def k0_off8 (d0 : Dev nD) (c3_i32_128 : BitVec 32) : Fin 2 → Nat :=
  let c1_i32_596 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let v776 : BitVec 32 := Scalar.subi c1_i32_596 v204
  let c64_i32 : BitVec 32 := 64#32
  let v777 : BitVec 32 := Scalar.muli v776 c64_i32
  let v781 : Index := Scalar.indexCast v777
  let c0_598 : Index := 0#32
  ![v781.toNat, 0]
def k0_off8_at (r : Fin 3) : BitVec 32 :=
  if r.val < 1 then
    3#32
  else
    if r.val < 2 then
      1#32
    else
      4#32
def k0_dev24 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_601 : BitVec 32 := 1#32
  let v789 : BitVec 32 := Scalar.xori v2 c1_i32_601
  let c1_i32_606 : BitVec 32 := 1#32
  let v790 : BitVec 32 := Scalar.muli v789 c1_i32_606
  let v791 : BitVec 32 := Scalar.addi c0_i32_607 v790
  v791.toNat
def k0_off9 (d0 : Dev nD) (c4_i32_124 : BitVec 32) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_620 : BitVec 32 := 128#32
  let v820 : BitVec 32 := Scalar.muli v198 c128_i32_620
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_621 : BitVec 32 := 64#32
  let v821 : BitVec 32 := Scalar.muli v204 c64_i32_621
  let v822 : BitVec 32 := Scalar.addi v820 v821
  let v823 : Index := Scalar.indexCast v822
  let c0_622 : Index := 0#32
  ![v823.toNat, 0]
def k0_off9_at (r : Fin 3) : BitVec 32 × BitVec 32 :=
  if r.val < 1 then
    (4#32, 3#32)
  else
    if r.val < 2 then
      (3#32, 1#32)
    else
      (2#32, 4#32)
def k0_off10 (d0 : Dev nD) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_621 : BitVec 32 := 64#32
  let v821 : BitVec 32 := Scalar.muli v204 c64_i32_621
  let v825 : Index := Scalar.indexCast v821
  let c0_623 : Index := 0#32
  ![v825.toNat, 0]
def k0_off10_at (r : Fin 3) : BitVec 32 :=
  if r.val < 1 then
    3#32
  else
    if r.val < 2 then
      1#32
    else
      4#32
def k0_dev25 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_644 : BitVec 32 := 3#32
  let v852 : BitVec 32 := Scalar.xori v2 c3_i32_644
  let c1_i32_649 : BitVec 32 := 1#32
  let v853 : BitVec 32 := Scalar.muli v852 c1_i32_649
  let v854 : BitVec 32 := Scalar.addi c0_i32_650 v853
  v854.toNat
def k0_dev26 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_669 : BitVec 32 := 4#32
  let v879 : BitVec 32 := Scalar.xori v2 c4_i32_669
  let c1_i32_674 : BitVec 32 := 1#32
  let v880 : BitVec 32 := Scalar.muli v879 c1_i32_674
  let v881 : BitVec 32 := Scalar.addi c0_i32_675 v880
  v881.toNat
def k0_dev27 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_694 : BitVec 32 := 1#32
  let v906 : BitVec 32 := Scalar.xori v2 c1_i32_694
  let c1_i32_699 : BitVec 32 := 1#32
  let v907 : BitVec 32 := Scalar.muli v906 c1_i32_699
  let v908 : BitVec 32 := Scalar.addi c0_i32_700 v907
  v908.toNat
def k0_off11 (d0 : Dev nD) (c4_i32_36 : BitVec 32) : Fin 2 → Nat :=
  let c1_i32_730 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let v955 : BitVec 32 := Scalar.subi c1_i32_730 v66
  let c48_i32 : BitVec 32 := 48#32
  let v956 : BitVec 32 := Scalar.muli v955 c48_i32
  let v957 : Index := Scalar.indexCast v956
  let c0_731 : Index := 0#32
  ![v957.toNat, 0]
def k0_dev28 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_735 : BitVec 32 := 4#32
  let v967 : BitVec 32 := Scalar.xori v2 c4_i32_735
  let c1_i32_740 : BitVec 32 := 1#32
  let v968 : BitVec 32 := Scalar.muli v967 c1_i32_740
  let v969 : BitVec 32 := Scalar.addi c0_i32_741 v968
  v969.toNat
def k0_dev29 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_759 : BitVec 32 := 1#32
  let v992 : BitVec 32 := Scalar.xori v2 c1_i32_759
  let c1_i32_764 : BitVec 32 := 1#32
  let v993 : BitVec 32 := Scalar.muli v992 c1_i32_764
  let v994 : BitVec 32 := Scalar.addi c0_i32_765 v993
  v994.toNat
def k0_dev30 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_783 : BitVec 32 := 3#32
  let v1017 : BitVec 32 := Scalar.xori v2 c3_i32_783
  let c1_i32_788 : BitVec 32 := 1#32
  let v1018 : BitVec 32 := Scalar.muli v1017 c1_i32_788
  let v1019 : BitVec 32 := Scalar.addi c0_i32_789 v1018
  v1019.toNat
def k0_off12 (d0 : Dev nD) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_790 : BitVec 32 := 48#32
  let v1024 : BitVec 32 := Scalar.muli v66 c48_i32_790
  let v1025 : Index := Scalar.indexCast v1024
  let c0_791 : Index := 0#32
  ![v1025.toNat, 0]
def k0_dev31 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_822 : BitVec 32 := 4#32
  let v1072 : BitVec 32 := Scalar.xori v2 c4_i32_822
  let c1_i32_827 : BitVec 32 := 1#32
  let v1073 : BitVec 32 := Scalar.muli v1072 c1_i32_827
  let v1074 : BitVec 32 := Scalar.addi c0_i32_828 v1073
  v1074.toNat
def k0_dev32 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_846 : BitVec 32 := 1#32
  let v1097 : BitVec 32 := Scalar.xori v2 c1_i32_846
  let c1_i32_851 : BitVec 32 := 1#32
  let v1098 : BitVec 32 := Scalar.muli v1097 c1_i32_851
  let v1099 : BitVec 32 := Scalar.addi c0_i32_852 v1098
  v1099.toNat
def k0_dev33 (d0 : Dev nD) : Nat :=
  let c0_i32_876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_870 : BitVec 32 := 3#32
  let v1122 : BitVec 32 := Scalar.xori v2 c3_i32_870
  let c1_i32_875 : BitVec 32 := 1#32
  let v1123 : BitVec 32 := Scalar.muli v1122 c1_i32_875
  let v1124 : BitVec 32 := Scalar.addi c0_i32_876 v1123
  v1124.toNat
def k0_dev34 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_909 : BitVec 32 := 4#32
  let v1177 : BitVec 32 := Scalar.xori v2 c4_i32_909
  let c1_i32_914 : BitVec 32 := 1#32
  let v1178 : BitVec 32 := Scalar.muli v1177 c1_i32_914
  let v1179 : BitVec 32 := Scalar.addi c0_i32_915 v1178
  v1179.toNat
def k0_dev35 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_933 : BitVec 32 := 1#32
  let v1202 : BitVec 32 := Scalar.xori v2 c1_i32_933
  let c1_i32_938 : BitVec 32 := 1#32
  let v1203 : BitVec 32 := Scalar.muli v1202 c1_i32_938
  let v1204 : BitVec 32 := Scalar.addi c0_i32_939 v1203
  v1204.toNat
def k0_off13 (d0 : Dev nD) (c1_i32_132 : BitVec 32) : Fin 2 → Nat :=
  let c1_i32_951 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let v1215 : BitVec 32 := Scalar.subi c1_i32_951 v210
  let c32_i32 : BitVec 32 := 32#32
  let v1216 : BitVec 32 := Scalar.muli v1215 c32_i32
  let v1217 : Index := Scalar.indexCast v1216
  let c0_952 : Index := 0#32
  ![v1217.toNat, 0]
def k0_dev36 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_956 : BitVec 32 := 3#32
  let v1227 : BitVec 32 := Scalar.xori v2 c3_i32_956
  let c1_i32_961 : BitVec 32 := 1#32
  let v1228 : BitVec 32 := Scalar.muli v1227 c1_i32_961
  let v1229 : BitVec 32 := Scalar.addi c0_i32_962 v1228
  v1229.toNat
def k0_off14 (d0 : Dev nD) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_973 : BitVec 32 := 32#32
  let v1254 : BitVec 32 := Scalar.muli v210 c32_i32_973
  let v1255 : Index := Scalar.indexCast v1254
  let c0_974 : Index := 0#32
  ![v1255.toNat, 0]
def k0_dev37 (d0 : Dev nD) : Nat :=
  let c0_i32_1001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_995 : BitVec 32 := 4#32
  let v1282 : BitVec 32 := Scalar.xori v2 c4_i32_995
  let c1_i32_1000 : BitVec 32 := 1#32
  let v1283 : BitVec 32 := Scalar.muli v1282 c1_i32_1000
  let v1284 : BitVec 32 := Scalar.addi c0_i32_1001 v1283
  v1284.toNat
def k0_dev38 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1019 : BitVec 32 := 1#32
  let v1307 : BitVec 32 := Scalar.xori v2 c1_i32_1019
  let c1_i32_1024 : BitVec 32 := 1#32
  let v1308 : BitVec 32 := Scalar.muli v1307 c1_i32_1024
  let v1309 : BitVec 32 := Scalar.addi c0_i32_1025 v1308
  v1309.toNat
def k0_dev39 (d0 : Dev nD) : Nat :=
  let c0_i32_1049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1043 : BitVec 32 := 3#32
  let v1332 : BitVec 32 := Scalar.xori v2 c3_i32_1043
  let c1_i32_1048 : BitVec 32 := 1#32
  let v1333 : BitVec 32 := Scalar.muli v1332 c1_i32_1048
  let v1334 : BitVec 32 := Scalar.addi c0_i32_1049 v1333
  v1334.toNat
def k0_off15 (d0 : Dev nD) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1080 : BitVec 32 := 192#32
  let v1379 : BitVec 32 := Scalar.muli v54 c192_i32_1080
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1081 : BitVec 32 := 96#32
  let v1380 : BitVec 32 := Scalar.muli v60 c96_i32_1081
  let v1381 : BitVec 32 := Scalar.addi v1379 v1380
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_1082 : BitVec 32 := 48#32
  let v1382 : BitVec 32 := Scalar.muli v66 c48_i32_1082
  let v1383 : BitVec 32 := Scalar.addi v1381 v1382
  let v1392 : Index := Scalar.indexCast v1383
  let c0_1083 : Index := 0#32
  ![v1392.toNat, 0]
def k0_off15_at (r : Fin 3) : BitVec 32 × BitVec 32 × BitVec 32 :=
  if r.val < 1 then
    (3#32, 1#32, 4#32)
  else
    if r.val < 2 then
      (2#32, 4#32, 1#32)
    else
      (4#32, 3#32, 1#32)
def k0_off16 (d0 : Dev nD) (c0_i32_1084 : BitVec 32) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1080 : BitVec 32 := 192#32
  let v1379 : BitVec 32 := Scalar.muli v54 c192_i32_1080
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1081 : BitVec 32 := 96#32
  let v1380 : BitVec 32 := Scalar.muli v60 c96_i32_1081
  let v1381 : BitVec 32 := Scalar.addi v1379 v1380
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_1082 : BitVec 32 := 48#32
  let v1382 : BitVec 32 := Scalar.muli v66 c48_i32_1082
  let v1383 : BitVec 32 := Scalar.addi v1381 v1382
  let v1396 : BitVec 32 := Scalar.addi c0_i32_1084 v1383
  let c0_i32_1087 : BitVec 32 := 0#32
  ![v1396.toNat, 0]
def k0_off16_at (r : Fin 8) : BitVec 32 × BitVec 32 × BitVec 32 × BitVec 32 :=
  if r.val < 4 then
    if r.val < 2 then
      if r.val < 1 then
        (0#32, 3#32, 1#32, 4#32)
      else
        (384#32, 2#32, 4#32, 1#32)
    else
      if r.val < 3 then
        (768#32, 4#32, 3#32, 1#32)
      else
        (1152#32, 3#32, 1#32, 4#32)
  else
    if r.val < 6 then
      if r.val < 5 then
        (1536#32, 2#32, 4#32, 1#32)
      else
        (1920#32, 4#32, 3#32, 1#32)
    else
      if r.val < 7 then
        (2304#32, 3#32, 1#32, 4#32)
      else
        (2688#32, 2#32, 4#32, 1#32)
def k0_off17 (d0 : Dev nD) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1080 : BitVec 32 := 192#32
  let v1379 : BitVec 32 := Scalar.muli v54 c192_i32_1080
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1081 : BitVec 32 := 96#32
  let v1380 : BitVec 32 := Scalar.muli v60 c96_i32_1081
  let v1381 : BitVec 32 := Scalar.addi v1379 v1380
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_1082 : BitVec 32 := 48#32
  let v1382 : BitVec 32 := Scalar.muli v66 c48_i32_1082
  let v1383 : BitVec 32 := Scalar.addi v1381 v1382
  let c0_i32_1088 : BitVec 32 := 0#32
  ![v1383.toNat, 0]
def k0_off17_at (r : Fin 3) : BitVec 32 × BitVec 32 × BitVec 32 :=
  if r.val < 1 then
    (3#32, 1#32, 4#32)
  else
    if r.val < 2 then
      (2#32, 4#32, 1#32)
    else
      (4#32, 3#32, 1#32)
def k0_off18 (d0 : Dev nD) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1089 : BitVec 32 := 96#32
  let v1401 : BitVec 32 := Scalar.muli v60 c96_i32_1089
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_1090 : BitVec 32 := 48#32
  let v1402 : BitVec 32 := Scalar.muli v66 c48_i32_1090
  let v1403 : BitVec 32 := Scalar.addi v1401 v1402
  let v1405 : Index := Scalar.indexCast v1403
  let c0_1091 : Index := 0#32
  ![v1405.toNat, 0]
def k0_off18_at (r : Fin 3) : BitVec 32 × BitVec 32 :=
  if r.val < 1 then
    (1#32, 4#32)
  else
    if r.val < 2 then
      (4#32, 1#32)
    else
      (3#32, 1#32)
def k0_off19 (d0 : Dev nD) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1089 : BitVec 32 := 96#32
  let v1401 : BitVec 32 := Scalar.muli v60 c96_i32_1089
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let c48_i32_1090 : BitVec 32 := 48#32
  let v1402 : BitVec 32 := Scalar.muli v66 c48_i32_1090
  let v1403 : BitVec 32 := Scalar.addi v1401 v1402
  let c0_i32_1099 : BitVec 32 := 0#32
  ![v1403.toNat, 0]
def k0_off19_at (r : Fin 3) : BitVec 32 × BitVec 32 :=
  if r.val < 1 then
    (1#32, 4#32)
  else
    if r.val < 2 then
      (4#32, 1#32)
    else
      (3#32, 1#32)
def k0_dev40 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1092 : BitVec 32 := 4#32
  let v1409 : BitVec 32 := Scalar.xori v2 c4_i32_1092
  let c1_i32_1097 : BitVec 32 := 1#32
  let v1410 : BitVec 32 := Scalar.muli v1409 c1_i32_1097
  let v1411 : BitVec 32 := Scalar.addi c0_i32_1098 v1410
  v1411.toNat
def k0_dev41 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1129 : BitVec 32 := 1#32
  let v1458 : BitVec 32 := Scalar.xori v2 c1_i32_1129
  let c1_i32_1134 : BitVec 32 := 1#32
  let v1459 : BitVec 32 := Scalar.muli v1458 c1_i32_1134
  let v1460 : BitVec 32 := Scalar.addi c0_i32_1135 v1459
  v1460.toNat
def k0_dev42 (d0 : Dev nD) : Nat :=
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1166 : BitVec 32 := 3#32
  let v1507 : BitVec 32 := Scalar.xori v2 c3_i32_1166
  let c1_i32_1171 : BitVec 32 := 1#32
  let v1508 : BitVec 32 := Scalar.muli v1507 c1_i32_1171
  let v1509 : BitVec 32 := Scalar.addi c0_i32_1172 v1508
  v1509.toNat
def k0_dev43 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1203 : BitVec 32 := 4#32
  let v1556 : BitVec 32 := Scalar.xori v2 c4_i32_1203
  let c1_i32_1208 : BitVec 32 := 1#32
  let v1557 : BitVec 32 := Scalar.muli v1556 c1_i32_1208
  let v1558 : BitVec 32 := Scalar.addi c0_i32_1209 v1557
  v1558.toNat
def k0_dev44 (d0 : Dev nD) : Nat :=
  let c0_i32_1246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1240 : BitVec 32 := 1#32
  let v1605 : BitVec 32 := Scalar.xori v2 c1_i32_1240
  let c1_i32_1245 : BitVec 32 := 1#32
  let v1606 : BitVec 32 := Scalar.muli v1605 c1_i32_1245
  let v1607 : BitVec 32 := Scalar.addi c0_i32_1246 v1606
  v1607.toNat
def k0_dev45 (d0 : Dev nD) : Nat :=
  let c0_i32_1283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1277 : BitVec 32 := 3#32
  let v1654 : BitVec 32 := Scalar.xori v2 c3_i32_1277
  let c1_i32_1282 : BitVec 32 := 1#32
  let v1655 : BitVec 32 := Scalar.muli v1654 c1_i32_1282
  let v1656 : BitVec 32 := Scalar.addi c0_i32_1283 v1655
  v1656.toNat
def k0_dev46 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1314 : BitVec 32 := 4#32
  let v1703 : BitVec 32 := Scalar.xori v2 c4_i32_1314
  let c1_i32_1319 : BitVec 32 := 1#32
  let v1704 : BitVec 32 := Scalar.muli v1703 c1_i32_1319
  let v1705 : BitVec 32 := Scalar.addi c0_i32_1320 v1704
  v1705.toNat
def k0_dev47 (d0 : Dev nD) : Nat :=
  let c0_i32_1357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1351 : BitVec 32 := 1#32
  let v1752 : BitVec 32 := Scalar.xori v2 c1_i32_1351
  let c1_i32_1356 : BitVec 32 := 1#32
  let v1753 : BitVec 32 := Scalar.muli v1752 c1_i32_1356
  let v1754 : BitVec 32 := Scalar.addi c0_i32_1357 v1753
  v1754.toNat
def k0_off20 (d0 : Dev nD) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1375 : BitVec 32 := 128#32
  let v1771 : BitVec 32 := Scalar.muli v198 c128_i32_1375
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1376 : BitVec 32 := 64#32
  let v1772 : BitVec 32 := Scalar.muli v204 c64_i32_1376
  let v1773 : BitVec 32 := Scalar.addi v1771 v1772
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_1377 : BitVec 32 := 32#32
  let v1774 : BitVec 32 := Scalar.muli v210 c32_i32_1377
  let v1775 : BitVec 32 := Scalar.addi v1773 v1774
  let v1784 : Index := Scalar.indexCast v1775
  let c0_1379 : Index := 0#32
  ![v1784.toNat, 0]
def k0_off20_at (r : Fin 3) : BitVec 32 × BitVec 32 × BitVec 32 :=
  if r.val < 1 then
    (4#32, 3#32, 1#32)
  else
    if r.val < 2 then
      (3#32, 1#32, 4#32)
    else
      (2#32, 4#32, 1#32)
def k0_off21 (d0 : Dev nD) (c3072_i32_1380 : BitVec 32) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1375 : BitVec 32 := 128#32
  let v1771 : BitVec 32 := Scalar.muli v198 c128_i32_1375
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1376 : BitVec 32 := 64#32
  let v1772 : BitVec 32 := Scalar.muli v204 c64_i32_1376
  let v1773 : BitVec 32 := Scalar.addi v1771 v1772
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_1377 : BitVec 32 := 32#32
  let v1774 : BitVec 32 := Scalar.muli v210 c32_i32_1377
  let v1775 : BitVec 32 := Scalar.addi v1773 v1774
  let v1788 : BitVec 32 := Scalar.addi c3072_i32_1380 v1775
  let c0_i32_1383 : BitVec 32 := 0#32
  ![v1788.toNat, 0]
def k0_off21_at (r : Fin 4) : BitVec 32 × BitVec 32 × BitVec 32 × BitVec 32 :=
  if r.val < 2 then
    if r.val < 1 then
      (3072#32, 4#32, 3#32, 1#32)
    else
      (3328#32, 3#32, 1#32, 4#32)
  else
    if r.val < 3 then
      (3584#32, 2#32, 4#32, 1#32)
    else
      (3840#32, 4#32, 3#32, 1#32)
def k0_off22 (d0 : Dev nD) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1375 : BitVec 32 := 128#32
  let v1771 : BitVec 32 := Scalar.muli v198 c128_i32_1375
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1376 : BitVec 32 := 64#32
  let v1772 : BitVec 32 := Scalar.muli v204 c64_i32_1376
  let v1773 : BitVec 32 := Scalar.addi v1771 v1772
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_1377 : BitVec 32 := 32#32
  let v1774 : BitVec 32 := Scalar.muli v210 c32_i32_1377
  let v1775 : BitVec 32 := Scalar.addi v1773 v1774
  let c0_i32_1384 : BitVec 32 := 0#32
  ![v1775.toNat, 0]
def k0_off22_at (r : Fin 3) : BitVec 32 × BitVec 32 × BitVec 32 :=
  if r.val < 1 then
    (4#32, 3#32, 1#32)
  else
    if r.val < 2 then
      (3#32, 1#32, 4#32)
    else
      (2#32, 4#32, 1#32)
def k0_off23 (d0 : Dev nD) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1385 : BitVec 32 := 64#32
  let v1793 : BitVec 32 := Scalar.muli v204 c64_i32_1385
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_1386 : BitVec 32 := 32#32
  let v1794 : BitVec 32 := Scalar.muli v210 c32_i32_1386
  let v1795 : BitVec 32 := Scalar.addi v1793 v1794
  let v1797 : Index := Scalar.indexCast v1795
  let c0_1387 : Index := 0#32
  ![v1797.toNat, 0]
def k0_off23_at (r : Fin 3) : BitVec 32 × BitVec 32 :=
  if r.val < 1 then
    (3#32, 1#32)
  else
    if r.val < 2 then
      (1#32, 4#32)
    else
      (4#32, 1#32)
def k0_off24 (d0 : Dev nD) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1385 : BitVec 32 := 64#32
  let v1793 : BitVec 32 := Scalar.muli v204 c64_i32_1385
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let c32_i32_1386 : BitVec 32 := 32#32
  let v1794 : BitVec 32 := Scalar.muli v210 c32_i32_1386
  let v1795 : BitVec 32 := Scalar.addi v1793 v1794
  let c0_i32_1395 : BitVec 32 := 0#32
  ![v1795.toNat, 0]
def k0_off24_at (r : Fin 3) : BitVec 32 × BitVec 32 :=
  if r.val < 1 then
    (3#32, 1#32)
  else
    if r.val < 2 then
      (1#32, 4#32)
    else
      (4#32, 1#32)
def k0_dev48 (d0 : Dev nD) : Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1388 : BitVec 32 := 3#32
  let v1801 : BitVec 32 := Scalar.xori v2 c3_i32_1388
  let c1_i32_1393 : BitVec 32 := 1#32
  let v1802 : BitVec 32 := Scalar.muli v1801 c1_i32_1393
  let v1803 : BitVec 32 := Scalar.addi c0_i32_1394 v1802
  v1803.toNat
def k0_dev49 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1425 : BitVec 32 := 4#32
  let v1850 : BitVec 32 := Scalar.xori v2 c4_i32_1425
  let c1_i32_1430 : BitVec 32 := 1#32
  let v1851 : BitVec 32 := Scalar.muli v1850 c1_i32_1430
  let v1852 : BitVec 32 := Scalar.addi c0_i32_1431 v1851
  v1852.toNat
def k0_dev50 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1462 : BitVec 32 := 1#32
  let v1899 : BitVec 32 := Scalar.xori v2 c1_i32_1462
  let c1_i32_1467 : BitVec 32 := 1#32
  let v1900 : BitVec 32 := Scalar.muli v1899 c1_i32_1467
  let v1901 : BitVec 32 := Scalar.addi c0_i32_1468 v1900
  v1901.toNat
def k0_dev51 (d0 : Dev nD) : Nat :=
  let c0_i32_1505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1499 : BitVec 32 := 3#32
  let v1948 : BitVec 32 := Scalar.xori v2 c3_i32_1499
  let c1_i32_1504 : BitVec 32 := 1#32
  let v1949 : BitVec 32 := Scalar.muli v1948 c1_i32_1504
  let v1950 : BitVec 32 := Scalar.addi c0_i32_1505 v1949
  v1950.toNat
def k0_off25 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1523 : BitVec 32 := 96#32
  let v1967 : BitVec 32 := Scalar.muli v60 c96_i32_1523
  let c0_i32_1531 : BitVec 32 := 0#32
  ![v1967.toNat, 0]
def k0_off25_at (r : Fin 3) : BitVec 32 :=
  if r.val < 1 then
    1#32
  else
    if r.val < 2 then
      4#32
    else
      3#32
def k0_dev52 (d0 : Dev nD) : Nat :=
  let c0_i32_1530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1524 : BitVec 32 := 3#32
  let v1968 : BitVec 32 := Scalar.xori v2 c3_i32_1524
  let c1_i32_1529 : BitVec 32 := 1#32
  let v1969 : BitVec 32 := Scalar.muli v1968 c1_i32_1529
  let v1970 : BitVec 32 := Scalar.addi c0_i32_1530 v1969
  v1970.toNat
def k0_dev53 (d0 : Dev nD) : Nat :=
  let c0_i32_1555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1549 : BitVec 32 := 4#32
  let v1988 : BitVec 32 := Scalar.xori v2 c4_i32_1549
  let c1_i32_1554 : BitVec 32 := 1#32
  let v1989 : BitVec 32 := Scalar.muli v1988 c1_i32_1554
  let v1990 : BitVec 32 := Scalar.addi c0_i32_1555 v1989
  v1990.toNat
def k0_dev54 (d0 : Dev nD) : Nat :=
  let c0_i32_1580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1574 : BitVec 32 := 1#32
  let v2008 : BitVec 32 := Scalar.xori v2 c1_i32_1574
  let c1_i32_1579 : BitVec 32 := 1#32
  let v2009 : BitVec 32 := Scalar.muli v2008 c1_i32_1579
  let v2010 : BitVec 32 := Scalar.addi c0_i32_1580 v2009
  v2010.toNat
def k0_off26 (d0 : Dev nD) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1583 : BitVec 32 := 96#32
  let v2017 : BitVec 32 := Scalar.muli v60 c96_i32_1583
  let c1_i32_1584 : BitVec 32 := 1#32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let v2018 : BitVec 32 := Scalar.subi c1_i32_1584 v66
  let c48_i32_1585 : BitVec 32 := 48#32
  let v2019 : BitVec 32 := Scalar.muli v2018 c48_i32_1585
  let v2020 : BitVec 32 := Scalar.addi v2017 v2019
  let v2023 : Index := Scalar.indexCast v2020
  let c0_1587 : Index := 0#32
  ![v2023.toNat, 0]
def k0_off26_at (r : Fin 3) : BitVec 32 × BitVec 32 :=
  if r.val < 1 then
    (1#32, 4#32)
  else
    if r.val < 2 then
      (4#32, 1#32)
    else
      (3#32, 1#32)
def k0_off27 (d0 : Dev nD) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1586 : BitVec 32 := 192#32
  let v2021 : BitVec 32 := Scalar.muli v54 c192_i32_1586
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1583 : BitVec 32 := 96#32
  let v2017 : BitVec 32 := Scalar.muli v60 c96_i32_1583
  let c1_i32_1584 : BitVec 32 := 1#32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let v2018 : BitVec 32 := Scalar.subi c1_i32_1584 v66
  let c48_i32_1585 : BitVec 32 := 48#32
  let v2019 : BitVec 32 := Scalar.muli v2018 c48_i32_1585
  let v2020 : BitVec 32 := Scalar.addi v2017 v2019
  let v2022 : BitVec 32 := Scalar.addi v2021 v2020
  let v2026 : Index := Scalar.indexCast v2022
  let c0_1588 : Index := 0#32
  ![v2026.toNat, 0]
def k0_off27_at (r : Fin 3) : BitVec 32 × BitVec 32 × BitVec 32 :=
  if r.val < 1 then
    (3#32, 1#32, 4#32)
  else
    if r.val < 2 then
      (2#32, 4#32, 1#32)
    else
      (4#32, 3#32, 1#32)
def k0_off28 (d0 : Dev nD) (c0_i32_1589 : BitVec 32) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1586 : BitVec 32 := 192#32
  let v2021 : BitVec 32 := Scalar.muli v54 c192_i32_1586
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1583 : BitVec 32 := 96#32
  let v2017 : BitVec 32 := Scalar.muli v60 c96_i32_1583
  let c1_i32_1584 : BitVec 32 := 1#32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let v2018 : BitVec 32 := Scalar.subi c1_i32_1584 v66
  let c48_i32_1585 : BitVec 32 := 48#32
  let v2019 : BitVec 32 := Scalar.muli v2018 c48_i32_1585
  let v2020 : BitVec 32 := Scalar.addi v2017 v2019
  let v2022 : BitVec 32 := Scalar.addi v2021 v2020
  let v2030 : BitVec 32 := Scalar.addi c0_i32_1589 v2022
  let c0_i32_1592 : BitVec 32 := 0#32
  ![v2030.toNat, 0]
def k0_off28_at (r : Fin 8) : BitVec 32 × BitVec 32 × BitVec 32 × BitVec 32 :=
  if r.val < 4 then
    if r.val < 2 then
      if r.val < 1 then
        (0#32, 3#32, 1#32, 4#32)
      else
        (384#32, 2#32, 4#32, 1#32)
    else
      if r.val < 3 then
        (768#32, 4#32, 3#32, 1#32)
      else
        (1152#32, 3#32, 1#32, 4#32)
  else
    if r.val < 6 then
      if r.val < 5 then
        (1536#32, 2#32, 4#32, 1#32)
      else
        (1920#32, 4#32, 3#32, 1#32)
    else
      if r.val < 7 then
        (2304#32, 3#32, 1#32, 4#32)
      else
        (2688#32, 2#32, 4#32, 1#32)
def k0_off29 (d0 : Dev nD) (c3_i32_28 : BitVec 32) (c1_i32_32 : BitVec 32) (c4_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_1586 : BitVec 32 := 192#32
  let v2021 : BitVec 32 := Scalar.muli v54 c192_i32_1586
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let c96_i32_1583 : BitVec 32 := 96#32
  let v2017 : BitVec 32 := Scalar.muli v60 c96_i32_1583
  let c1_i32_1584 : BitVec 32 := 1#32
  let v61 : BitVec 32 := Scalar.andi v2 c4_i32_36
  let c1_i32_37 : BitVec 32 := 1#32
  let v62 : BitVec 32 := Scalar.shrsi v61 c1_i32_37
  let v63 : BitVec 32 := Scalar.xori v61 v62
  let c2_i32_38 : BitVec 32 := 2#32
  let v64 : BitVec 32 := Scalar.shrsi v61 c2_i32_38
  let v65 : BitVec 32 := Scalar.xori v63 v64
  let c1_i32_39 : BitVec 32 := 1#32
  let v66 : BitVec 32 := Scalar.andi v65 c1_i32_39
  let v2018 : BitVec 32 := Scalar.subi c1_i32_1584 v66
  let c48_i32_1585 : BitVec 32 := 48#32
  let v2019 : BitVec 32 := Scalar.muli v2018 c48_i32_1585
  let v2020 : BitVec 32 := Scalar.addi v2017 v2019
  let v2022 : BitVec 32 := Scalar.addi v2021 v2020
  let c0_i32_1593 : BitVec 32 := 0#32
  ![v2022.toNat, 0]
def k0_off29_at (r : Fin 3) : BitVec 32 × BitVec 32 × BitVec 32 :=
  if r.val < 1 then
    (3#32, 1#32, 4#32)
  else
    if r.val < 2 then
      (2#32, 4#32, 1#32)
    else
      (4#32, 3#32, 1#32)
def k0_dev55 (d0 : Dev nD) : Nat :=
  let c0_i32_1638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1632 : BitVec 32 := 3#32
  let v2082 : BitVec 32 := Scalar.xori v2 c3_i32_1632
  let c1_i32_1637 : BitVec 32 := 1#32
  let v2083 : BitVec 32 := Scalar.muli v2082 c1_i32_1637
  let v2084 : BitVec 32 := Scalar.addi c0_i32_1638 v2083
  v2084.toNat
def k0_dev56 (d0 : Dev nD) : Nat :=
  let c0_i32_1663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1657 : BitVec 32 := 4#32
  let v2102 : BitVec 32 := Scalar.xori v2 c4_i32_1657
  let c1_i32_1662 : BitVec 32 := 1#32
  let v2103 : BitVec 32 := Scalar.muli v2102 c1_i32_1662
  let v2104 : BitVec 32 := Scalar.addi c0_i32_1663 v2103
  v2104.toNat
def k0_dev57 (d0 : Dev nD) : Nat :=
  let c0_i32_1688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1682 : BitVec 32 := 1#32
  let v2122 : BitVec 32 := Scalar.xori v2 c1_i32_1682
  let c1_i32_1687 : BitVec 32 := 1#32
  let v2123 : BitVec 32 := Scalar.muli v2122 c1_i32_1687
  let v2124 : BitVec 32 := Scalar.addi c0_i32_1688 v2123
  v2124.toNat
def k0_dev58 (d0 : Dev nD) : Nat :=
  let c0_i32_1746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1740 : BitVec 32 := 3#32
  let v2196 : BitVec 32 := Scalar.xori v2 c3_i32_1740
  let c1_i32_1745 : BitVec 32 := 1#32
  let v2197 : BitVec 32 := Scalar.muli v2196 c1_i32_1745
  let v2198 : BitVec 32 := Scalar.addi c0_i32_1746 v2197
  v2198.toNat
def k0_dev59 (d0 : Dev nD) : Nat :=
  let c0_i32_1771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1765 : BitVec 32 := 4#32
  let v2216 : BitVec 32 := Scalar.xori v2 c4_i32_1765
  let c1_i32_1770 : BitVec 32 := 1#32
  let v2217 : BitVec 32 := Scalar.muli v2216 c1_i32_1770
  let v2218 : BitVec 32 := Scalar.addi c0_i32_1771 v2217
  v2218.toNat
def k0_off30 (d0 : Dev nD) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1789 : BitVec 32 := 64#32
  let v2235 : BitVec 32 := Scalar.muli v204 c64_i32_1789
  let c0_i32_1797 : BitVec 32 := 0#32
  ![v2235.toNat, 0]
def k0_off30_at (r : Fin 3) : BitVec 32 :=
  if r.val < 1 then
    3#32
  else
    if r.val < 2 then
      1#32
    else
      4#32
def k0_dev60 (d0 : Dev nD) : Nat :=
  let c0_i32_1796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1790 : BitVec 32 := 1#32
  let v2236 : BitVec 32 := Scalar.xori v2 c1_i32_1790
  let c1_i32_1795 : BitVec 32 := 1#32
  let v2237 : BitVec 32 := Scalar.muli v2236 c1_i32_1795
  let v2238 : BitVec 32 := Scalar.addi c0_i32_1796 v2237
  v2238.toNat
def k0_off31 (d0 : Dev nD) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1821 : BitVec 32 := 64#32
  let v2281 : BitVec 32 := Scalar.muli v204 c64_i32_1821
  let c1_i32_1822 : BitVec 32 := 1#32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let v2282 : BitVec 32 := Scalar.subi c1_i32_1822 v210
  let c32_i32_1823 : BitVec 32 := 32#32
  let v2283 : BitVec 32 := Scalar.muli v2282 c32_i32_1823
  let v2284 : BitVec 32 := Scalar.addi v2281 v2283
  let v2287 : Index := Scalar.indexCast v2284
  let c0_1825 : Index := 0#32
  ![v2287.toNat, 0]
def k0_off31_at (r : Fin 3) : BitVec 32 × BitVec 32 :=
  if r.val < 1 then
    (3#32, 1#32)
  else
    if r.val < 2 then
      (1#32, 4#32)
    else
      (4#32, 1#32)
def k0_off32 (d0 : Dev nD) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1824 : BitVec 32 := 128#32
  let v2285 : BitVec 32 := Scalar.muli v198 c128_i32_1824
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1821 : BitVec 32 := 64#32
  let v2281 : BitVec 32 := Scalar.muli v204 c64_i32_1821
  let c1_i32_1822 : BitVec 32 := 1#32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let v2282 : BitVec 32 := Scalar.subi c1_i32_1822 v210
  let c32_i32_1823 : BitVec 32 := 32#32
  let v2283 : BitVec 32 := Scalar.muli v2282 c32_i32_1823
  let v2284 : BitVec 32 := Scalar.addi v2281 v2283
  let v2286 : BitVec 32 := Scalar.addi v2285 v2284
  let v2290 : Index := Scalar.indexCast v2286
  let c0_1826 : Index := 0#32
  ![v2290.toNat, 0]
def k0_off32_at (r : Fin 3) : BitVec 32 × BitVec 32 × BitVec 32 :=
  if r.val < 1 then
    (4#32, 3#32, 1#32)
  else
    if r.val < 2 then
      (3#32, 1#32, 4#32)
    else
      (2#32, 4#32, 1#32)
def k0_off33 (d0 : Dev nD) (c3072_i32_1827 : BitVec 32) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1824 : BitVec 32 := 128#32
  let v2285 : BitVec 32 := Scalar.muli v198 c128_i32_1824
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1821 : BitVec 32 := 64#32
  let v2281 : BitVec 32 := Scalar.muli v204 c64_i32_1821
  let c1_i32_1822 : BitVec 32 := 1#32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let v2282 : BitVec 32 := Scalar.subi c1_i32_1822 v210
  let c32_i32_1823 : BitVec 32 := 32#32
  let v2283 : BitVec 32 := Scalar.muli v2282 c32_i32_1823
  let v2284 : BitVec 32 := Scalar.addi v2281 v2283
  let v2286 : BitVec 32 := Scalar.addi v2285 v2284
  let v2294 : BitVec 32 := Scalar.addi c3072_i32_1827 v2286
  let c0_i32_1830 : BitVec 32 := 0#32
  ![v2294.toNat, 0]
def k0_off33_at (r : Fin 4) : BitVec 32 × BitVec 32 × BitVec 32 × BitVec 32 :=
  if r.val < 2 then
    if r.val < 1 then
      (3072#32, 4#32, 3#32, 1#32)
    else
      (3328#32, 3#32, 1#32, 4#32)
  else
    if r.val < 3 then
      (3584#32, 2#32, 4#32, 1#32)
    else
      (3840#32, 4#32, 3#32, 1#32)
def k0_off34 (d0 : Dev nD) (c4_i32_124 : BitVec 32) (c3_i32_128 : BitVec 32) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_1824 : BitVec 32 := 128#32
  let v2285 : BitVec 32 := Scalar.muli v198 c128_i32_1824
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let c64_i32_1821 : BitVec 32 := 64#32
  let v2281 : BitVec 32 := Scalar.muli v204 c64_i32_1821
  let c1_i32_1822 : BitVec 32 := 1#32
  let v205 : BitVec 32 := Scalar.andi v2 c1_i32_132
  let c1_i32_133 : BitVec 32 := 1#32
  let v206 : BitVec 32 := Scalar.shrsi v205 c1_i32_133
  let v207 : BitVec 32 := Scalar.xori v205 v206
  let c2_i32_134 : BitVec 32 := 2#32
  let v208 : BitVec 32 := Scalar.shrsi v205 c2_i32_134
  let v209 : BitVec 32 := Scalar.xori v207 v208
  let c1_i32_135 : BitVec 32 := 1#32
  let v210 : BitVec 32 := Scalar.andi v209 c1_i32_135
  let v2282 : BitVec 32 := Scalar.subi c1_i32_1822 v210
  let c32_i32_1823 : BitVec 32 := 32#32
  let v2283 : BitVec 32 := Scalar.muli v2282 c32_i32_1823
  let v2284 : BitVec 32 := Scalar.addi v2281 v2283
  let v2286 : BitVec 32 := Scalar.addi v2285 v2284
  let c0_i32_1831 : BitVec 32 := 0#32
  ![v2286.toNat, 0]
def k0_off34_at (r : Fin 3) : BitVec 32 × BitVec 32 × BitVec 32 :=
  if r.val < 1 then
    (4#32, 3#32, 1#32)
  else
    if r.val < 2 then
      (3#32, 1#32, 4#32)
    else
      (2#32, 4#32, 1#32)
def k0_dev61 (d0 : Dev nD) : Nat :=
  let c0_i32_1854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1848 : BitVec 32 := 3#32
  let v2310 : BitVec 32 := Scalar.xori v2 c3_i32_1848
  let c1_i32_1853 : BitVec 32 := 1#32
  let v2311 : BitVec 32 := Scalar.muli v2310 c1_i32_1853
  let v2312 : BitVec 32 := Scalar.addi c0_i32_1854 v2311
  v2312.toNat
def k0_dev62 (d0 : Dev nD) : Nat :=
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1873 : BitVec 32 := 4#32
  let v2330 : BitVec 32 := Scalar.xori v2 c4_i32_1873
  let c1_i32_1878 : BitVec 32 := 1#32
  let v2331 : BitVec 32 := Scalar.muli v2330 c1_i32_1878
  let v2332 : BitVec 32 := Scalar.addi c0_i32_1879 v2331
  v2332.toNat
def k0_dev63 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1898 : BitVec 32 := 1#32
  let v2350 : BitVec 32 := Scalar.xori v2 c1_i32_1898
  let c1_i32_1903 : BitVec 32 := 1#32
  let v2351 : BitVec 32 := Scalar.muli v2350 c1_i32_1903
  let v2352 : BitVec 32 := Scalar.addi c0_i32_1904 v2351
  v2352.toNat
def k0_dev64 (d0 : Dev nD) : Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1955 : BitVec 32 := 1#32
  let v2423 : BitVec 32 := Scalar.xori v2 c1_i32_1955
  let c1_i32_1960 : BitVec 32 := 1#32
  let v2424 : BitVec 32 := Scalar.muli v2423 c1_i32_1960
  let v2425 : BitVec 32 := Scalar.addi c0_i32_1961 v2424
  v2425.toNat
def k0_dev65 (d0 : Dev nD) : Nat :=
  let c0_i32_1983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1977 : BitVec 32 := 3#32
  let v2440 : BitVec 32 := Scalar.xori v2 c3_i32_1977
  let c1_i32_1982 : BitVec 32 := 1#32
  let v2441 : BitVec 32 := Scalar.muli v2440 c1_i32_1982
  let v2442 : BitVec 32 := Scalar.addi c0_i32_1983 v2441
  v2442.toNat
def k0_dev66 (d0 : Dev nD) : Nat :=
  let c0_i32_2005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1999 : BitVec 32 := 4#32
  let v2457 : BitVec 32 := Scalar.xori v2 c4_i32_1999
  let c1_i32_2004 : BitVec 32 := 1#32
  let v2458 : BitVec 32 := Scalar.muli v2457 c1_i32_2004
  let v2459 : BitVec 32 := Scalar.addi c0_i32_2005 v2458
  v2459.toNat
def k0_off35 (d0 : Dev nD) (c0_i32_2011 : BitVec 32) (c3_i32_28 : BitVec 32) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_2008 : BitVec 32 := 192#32
  let v2466 : BitVec 32 := Scalar.muli v54 c192_i32_2008
  let c1_i32_2006 : BitVec 32 := 1#32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let v2464 : BitVec 32 := Scalar.subi c1_i32_2006 v60
  let c96_i32_2007 : BitVec 32 := 96#32
  let v2465 : BitVec 32 := Scalar.muli v2464 c96_i32_2007
  let v2467 : BitVec 32 := Scalar.addi v2466 v2465
  let v2475 : BitVec 32 := Scalar.addi c0_i32_2011 v2467
  let c0_i32_2014 : BitVec 32 := 0#32
  ![v2475.toNat, 0]
def k0_off35_at (r : Fin 8) : BitVec 32 × BitVec 32 × BitVec 32 :=
  if r.val < 4 then
    if r.val < 2 then
      if r.val < 1 then
        (0#32, 3#32, 1#32)
      else
        (384#32, 2#32, 4#32)
    else
      if r.val < 3 then
        (768#32, 4#32, 3#32)
      else
        (1152#32, 3#32, 1#32)
  else
    if r.val < 6 then
      if r.val < 5 then
        (1536#32, 2#32, 4#32)
      else
        (1920#32, 4#32, 3#32)
    else
      if r.val < 7 then
        (2304#32, 3#32, 1#32)
      else
        (2688#32, 2#32, 4#32)
def k0_off36 (d0 : Dev nD) (c3_i32_28 : BitVec 32) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let c192_i32_2008 : BitVec 32 := 192#32
  let v2466 : BitVec 32 := Scalar.muli v54 c192_i32_2008
  let c1_i32_2006 : BitVec 32 := 1#32
  let v55 : BitVec 32 := Scalar.andi v2 c1_i32_32
  let c1_i32_33 : BitVec 32 := 1#32
  let v56 : BitVec 32 := Scalar.shrsi v55 c1_i32_33
  let v57 : BitVec 32 := Scalar.xori v55 v56
  let c2_i32_34 : BitVec 32 := 2#32
  let v58 : BitVec 32 := Scalar.shrsi v55 c2_i32_34
  let v59 : BitVec 32 := Scalar.xori v57 v58
  let c1_i32_35 : BitVec 32 := 1#32
  let v60 : BitVec 32 := Scalar.andi v59 c1_i32_35
  let v2464 : BitVec 32 := Scalar.subi c1_i32_2006 v60
  let c96_i32_2007 : BitVec 32 := 96#32
  let v2465 : BitVec 32 := Scalar.muli v2464 c96_i32_2007
  let v2467 : BitVec 32 := Scalar.addi v2466 v2465
  let c0_i32_2015 : BitVec 32 := 0#32
  ![v2467.toNat, 0]
def k0_off36_at (r : Fin 3) : BitVec 32 × BitVec 32 :=
  if r.val < 1 then
    (3#32, 1#32)
  else
    if r.val < 2 then
      (2#32, 4#32)
    else
      (4#32, 3#32)
def k0_dev67 (d0 : Dev nD) : Nat :=
  let c0_i32_2057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2051 : BitVec 32 := 1#32
  let v2522 : BitVec 32 := Scalar.xori v2 c1_i32_2051
  let c1_i32_2056 : BitVec 32 := 1#32
  let v2523 : BitVec 32 := Scalar.muli v2522 c1_i32_2056
  let v2524 : BitVec 32 := Scalar.addi c0_i32_2057 v2523
  v2524.toNat
def k0_dev68 (d0 : Dev nD) : Nat :=
  let c0_i32_2079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2073 : BitVec 32 := 3#32
  let v2539 : BitVec 32 := Scalar.xori v2 c3_i32_2073
  let c1_i32_2078 : BitVec 32 := 1#32
  let v2540 : BitVec 32 := Scalar.muli v2539 c1_i32_2078
  let v2541 : BitVec 32 := Scalar.addi c0_i32_2079 v2540
  v2541.toNat
def k0_dev69 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2095 : BitVec 32 := 4#32
  let v2556 : BitVec 32 := Scalar.xori v2 c4_i32_2095
  let c1_i32_2100 : BitVec 32 := 1#32
  let v2557 : BitVec 32 := Scalar.muli v2556 c1_i32_2100
  let v2558 : BitVec 32 := Scalar.addi c0_i32_2101 v2557
  v2558.toNat
def k0_dev70 (d0 : Dev nD) : Nat :=
  let c0_i32_2153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2147 : BitVec 32 := 1#32
  let v2621 : BitVec 32 := Scalar.xori v2 c1_i32_2147
  let c1_i32_2152 : BitVec 32 := 1#32
  let v2622 : BitVec 32 := Scalar.muli v2621 c1_i32_2152
  let v2623 : BitVec 32 := Scalar.addi c0_i32_2153 v2622
  v2623.toNat
def k0_dev71 (d0 : Dev nD) : Nat :=
  let c0_i32_2175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2169 : BitVec 32 := 3#32
  let v2638 : BitVec 32 := Scalar.xori v2 c3_i32_2169
  let c1_i32_2174 : BitVec 32 := 1#32
  let v2639 : BitVec 32 := Scalar.muli v2638 c1_i32_2174
  let v2640 : BitVec 32 := Scalar.addi c0_i32_2175 v2639
  v2640.toNat
def k0_dev72 (d0 : Dev nD) : Nat :=
  let c0_i32_2197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2191 : BitVec 32 := 4#32
  let v2655 : BitVec 32 := Scalar.xori v2 c4_i32_2191
  let c1_i32_2196 : BitVec 32 := 1#32
  let v2656 : BitVec 32 := Scalar.muli v2655 c1_i32_2196
  let v2657 : BitVec 32 := Scalar.addi c0_i32_2197 v2656
  v2657.toNat
def k0_off37 (d0 : Dev nD) (c3072_i32_2223 : BitVec 32) (c4_i32_124 : BitVec 32) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_2220 : BitVec 32 := 128#32
  let v2696 : BitVec 32 := Scalar.muli v198 c128_i32_2220
  let c1_i32_2218 : BitVec 32 := 1#32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let v2694 : BitVec 32 := Scalar.subi c1_i32_2218 v204
  let c64_i32_2219 : BitVec 32 := 64#32
  let v2695 : BitVec 32 := Scalar.muli v2694 c64_i32_2219
  let v2697 : BitVec 32 := Scalar.addi v2696 v2695
  let v2705 : BitVec 32 := Scalar.addi c3072_i32_2223 v2697
  let c0_i32_2226 : BitVec 32 := 0#32
  ![v2705.toNat, 0]
def k0_off37_at (r : Fin 4) : BitVec 32 × BitVec 32 × BitVec 32 :=
  if r.val < 2 then
    if r.val < 1 then
      (3072#32, 4#32, 3#32)
    else
      (3328#32, 3#32, 1#32)
  else
    if r.val < 3 then
      (3584#32, 2#32, 4#32)
    else
      (3840#32, 4#32, 3#32)
def k0_off38 (d0 : Dev nD) (c4_i32_124 : BitVec 32) (c3_i32_128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let c128_i32_2220 : BitVec 32 := 128#32
  let v2696 : BitVec 32 := Scalar.muli v198 c128_i32_2220
  let c1_i32_2218 : BitVec 32 := 1#32
  let v199 : BitVec 32 := Scalar.andi v2 c3_i32_128
  let c1_i32_129 : BitVec 32 := 1#32
  let v200 : BitVec 32 := Scalar.shrsi v199 c1_i32_129
  let v201 : BitVec 32 := Scalar.xori v199 v200
  let c2_i32_130 : BitVec 32 := 2#32
  let v202 : BitVec 32 := Scalar.shrsi v199 c2_i32_130
  let v203 : BitVec 32 := Scalar.xori v201 v202
  let c1_i32_131 : BitVec 32 := 1#32
  let v204 : BitVec 32 := Scalar.andi v203 c1_i32_131
  let v2694 : BitVec 32 := Scalar.subi c1_i32_2218 v204
  let c64_i32_2219 : BitVec 32 := 64#32
  let v2695 : BitVec 32 := Scalar.muli v2694 c64_i32_2219
  let v2697 : BitVec 32 := Scalar.addi v2696 v2695
  let c0_i32_2227 : BitVec 32 := 0#32
  ![v2697.toNat, 0]
def k0_off38_at (r : Fin 3) : BitVec 32 × BitVec 32 :=
  if r.val < 1 then
    (4#32, 3#32)
  else
    if r.val < 2 then
      (3#32, 1#32)
    else
      (2#32, 4#32)
def k0_dev73 (d0 : Dev nD) : Nat :=
  let c0_i32_2249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2243 : BitVec 32 := 1#32
  let v2720 : BitVec 32 := Scalar.xori v2 c1_i32_2243
  let c1_i32_2248 : BitVec 32 := 1#32
  let v2721 : BitVec 32 := Scalar.muli v2720 c1_i32_2248
  let v2722 : BitVec 32 := Scalar.addi c0_i32_2249 v2721
  v2722.toNat
def k0_dev74 (d0 : Dev nD) : Nat :=
  let c0_i32_2271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2265 : BitVec 32 := 3#32
  let v2737 : BitVec 32 := Scalar.xori v2 c3_i32_2265
  let c1_i32_2270 : BitVec 32 := 1#32
  let v2738 : BitVec 32 := Scalar.muli v2737 c1_i32_2270
  let v2739 : BitVec 32 := Scalar.addi c0_i32_2271 v2738
  v2739.toNat
def k0_dev75 (d0 : Dev nD) : Nat :=
  let c0_i32_2293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2287 : BitVec 32 := 4#32
  let v2754 : BitVec 32 := Scalar.xori v2 c4_i32_2287
  let c1_i32_2292 : BitVec 32 := 1#32
  let v2755 : BitVec 32 := Scalar.muli v2754 c1_i32_2292
  let v2756 : BitVec 32 := Scalar.addi c0_i32_2293 v2755
  v2756.toNat
def k0_off39 (d0 : Dev nD) (c0_i32_2340 : BitVec 32) (c3_i32_28 : BitVec 32) : Fin 2 → Nat :=
  let c1_i32_2335 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let v2815 : BitVec 32 := Scalar.subi c1_i32_2335 v54
  let c192_i32_2336 : BitVec 32 := 192#32
  let v2816 : BitVec 32 := Scalar.muli v2815 c192_i32_2336
  let v2823 : BitVec 32 := Scalar.addi c0_i32_2340 v2816
  let c0_i32_2343 : BitVec 32 := 0#32
  ![v2823.toNat, 0]
def k0_off39_at (r : Fin 8) : BitVec 32 × BitVec 32 :=
  if r.val < 4 then
    if r.val < 2 then
      if r.val < 1 then
        (0#32, 3#32)
      else
        (384#32, 2#32)
    else
      if r.val < 3 then
        (768#32, 4#32)
      else
        (1152#32, 3#32)
  else
    if r.val < 6 then
      if r.val < 5 then
        (1536#32, 2#32)
      else
        (1920#32, 4#32)
    else
      if r.val < 7 then
        (2304#32, 3#32)
      else
        (2688#32, 2#32)
def k0_off40 (d0 : Dev nD) (c3_i32_28 : BitVec 32) : Fin 2 → Nat :=
  let c1_i32_2335 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.andi v2 c3_i32_28
  let c1_i32_29 : BitVec 32 := 1#32
  let v50 : BitVec 32 := Scalar.shrsi v49 c1_i32_29
  let v51 : BitVec 32 := Scalar.xori v49 v50
  let c2_i32_30 : BitVec 32 := 2#32
  let v52 : BitVec 32 := Scalar.shrsi v49 c2_i32_30
  let v53 : BitVec 32 := Scalar.xori v51 v52
  let c1_i32_31 : BitVec 32 := 1#32
  let v54 : BitVec 32 := Scalar.andi v53 c1_i32_31
  let v2815 : BitVec 32 := Scalar.subi c1_i32_2335 v54
  let c192_i32_2336 : BitVec 32 := 192#32
  let v2816 : BitVec 32 := Scalar.muli v2815 c192_i32_2336
  let c0_i32_2344 : BitVec 32 := 0#32
  ![v2816.toNat, 0]
def k0_off41 (d0 : Dev nD) (c3072_i32_2508 : BitVec 32) (c4_i32_124 : BitVec 32) : Fin 2 → Nat :=
  let c1_i32_2503 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let v2967 : BitVec 32 := Scalar.subi c1_i32_2503 v198
  let c128_i32_2504 : BitVec 32 := 128#32
  let v2968 : BitVec 32 := Scalar.muli v2967 c128_i32_2504
  let v2975 : BitVec 32 := Scalar.addi c3072_i32_2508 v2968
  let c0_i32_2511 : BitVec 32 := 0#32
  ![v2975.toNat, 0]
def k0_off41_at (r : Fin 4) : BitVec 32 × BitVec 32 :=
  if r.val < 2 then
    if r.val < 1 then
      (3072#32, 4#32)
    else
      (3328#32, 3#32)
  else
    if r.val < 3 then
      (3584#32, 2#32)
    else
      (3840#32, 4#32)
def k0_off42 (d0 : Dev nD) (c4_i32_124 : BitVec 32) : Fin 2 → Nat :=
  let c1_i32_2503 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v193 : BitVec 32 := Scalar.andi v2 c4_i32_124
  let c1_i32_125 : BitVec 32 := 1#32
  let v194 : BitVec 32 := Scalar.shrsi v193 c1_i32_125
  let v195 : BitVec 32 := Scalar.xori v193 v194
  let c2_i32_126 : BitVec 32 := 2#32
  let v196 : BitVec 32 := Scalar.shrsi v193 c2_i32_126
  let v197 : BitVec 32 := Scalar.xori v195 v196
  let c1_i32_127 : BitVec 32 := 1#32
  let v198 : BitVec 32 := Scalar.andi v197 c1_i32_127
  let v2967 : BitVec 32 := Scalar.subi c1_i32_2503 v198
  let c128_i32_2504 : BitVec 32 := 128#32
  let v2968 : BitVec 32 := Scalar.muli v2967 c128_i32_2504
  let c0_i32_2512 : BitVec 32 := 0#32
  ![v2968.toNat, 0]
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Parts.lean ====
/-
# The parts of the all-reduce

The kernel cuts the 4096 rows of every device's array into twelve parts. This module names, for a part `p`, its
number of rows, its place, the order in which it meets the three exchange directions, the parities that say
which half, quarter and eighth of it a device keeps, and the buffers and semaphores it works with.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.AllReduce

open Cert.KernelIdeal Cert.KernelIdeal.Gen
open Idealize.ShloMosaic Idealize.ShloMosaic.TcCoe Idealize.SL.Sem

/-! ## Numbers -/

/-- `n` rows of 1024. -/
abbrev sh (n : ℕ) : Shape := ⟨2, ![n, 1024]⟩

/-- An eighth of part `p`, in rows. -/
def U : Fin 12 → ℕ
  | 0 => 48 | 1 => 48 | 2 => 48 | 3 => 48 | 4 => 48 | 5 => 48 | 6 => 48 | 7 => 48
  | 8 => 32 | 9 => 32 | 10 => 32 | 11 => 32

/-- The first row of part `p`. -/
def offs : Fin 12 → ℕ
  | 0 => 0 | 1 => 384 | 2 => 768 | 3 => 1152 | 4 => 1536 | 5 => 1920 | 6 => 2304 | 7 => 2688
  | 8 => 3072 | 9 => 3328 | 10 => 3584 | 11 => 3840

/-- One of three, by the part's place in its generation. -/
def rot {α : Type} (x y z : α) (p : Fin 12) : α :=
  match p.val % 3 with
  | 0 => x
  | 1 => y
  | _ => z

/-- A natural number as a word. -/
abbrev w (n : ℕ) : BitVec 32 := BitVec.ofNat 32 n

/-- The device's index along the mesh, as the kernel computes it. -/
def wD (d : Dev nD) : BitVec 32 := Scalar.remsi (Scalar.divsi (Dev.word d) 1#32) 8#32

/-- The parity of a three-bit word. -/
def par (v : BitVec 32) : BitVec 32 :=
  Scalar.andi (Scalar.xori (Scalar.xori v (Scalar.shrsi v 1#32)) (Scalar.shrsi v 2#32)) 1#32

/-- The three parities of device `d` for part `p`, as words. -/
def f1 (p : Fin 12) (d : Dev nD) : BitVec 32 := par (Scalar.andi (wD d) (rot 3#32 2#32 4#32 p))
def f2 (p : Fin 12) (d : Dev nD) : BitVec 32 := par (Scalar.andi (wD d) (rot 1#32 4#32 3#32 p))
def f3 (p : Fin 12) (d : Dev nD) : BitVec 32 := par (Scalar.andi (wD d) (rot 4#32 1#32 1#32 p))

/-- The three exchange directions' masks. -/
def mask : Fin 3 → BitVec 32
  | 0 => 1#32 | 1 => 3#32 | 2 => 4#32

/-- The word naming the device `d` meets in direction `j`. -/
def nbW (j : Fin 3) (d : Dev nD) : ℕ :=
  (Scalar.addi 0#32 (Scalar.muli (Scalar.xori (wD d) (mask j)) 1#32)).toNat

theorem nbW_lt : ∀ j d, nbW j d < nD := by decide +kernel

/-- The device `d` meets in direction `j`. -/
def nb (j : Fin 3) (d : Dev nD) : Dev nD := ⟨nbW j d, nbW_lt j d⟩

/-- The directions part `p` takes first, second and third. -/
def j1 : Fin 12 → Fin 3 := rot 0 1 2
def j2 : Fin 12 → Fin 3 := rot 1 2 0
def j3 : Fin 12 → Fin 3 := rot 2 0 1

/-- The direction of each of the six exchanges: there and back. -/
def dir (p : Fin 12) : Fin 6 → Fin 3
  | 0 => j1 p | 1 => j2 p | 2 => j3 p | 3 => j3 p | 4 => j2 p | 5 => j1 p

/-! ## Places inside a part -/

def wA (p : Fin 12) (d : Dev nD) : BitVec 32 := Scalar.muli (Scalar.subi 1#32 (f1 p d)) (w (4 * U p))
def wB (p : Fin 12) (d : Dev nD) : BitVec 32 :=
  Scalar.addi (Scalar.muli (f1 p d) (w (4 * U p))) (Scalar.muli (Scalar.subi 1#32 (f2 p d)) (w (2 * U p)))
def wC (p : Fin 12) (d : Dev nD) : BitVec 32 := Scalar.muli (Scalar.subi 1#32 (f2 p d)) (w (2 * U p))
def wDd (p : Fin 12) (d : Dev nD) : BitVec 32 :=
  Scalar.addi (Scalar.muli (f1 p d) (w (4 * U p))) (Scalar.muli (f2 p d) (w (2 * U p)))
def wE (p : Fin 12) (d : Dev nD) : BitVec 32 := Scalar.muli (f2 p d) (w (2 * U p))
def wF (p : Fin 12) (d : Dev nD) : BitVec 32 := Scalar.muli (Scalar.subi 1#32 (f3 p d)) (w (U p))
def wG (p : Fin 12) (d : Dev nD) : BitVec 32 := Scalar.muli (f3 p d) (w (U p))
def wH (p : Fin 12) (d : Dev nD) : BitVec 32 := Scalar.addi (wDd p d) (wG p d)
def wI (p : Fin 12) (d : Dev nD) : BitVec 32 := Scalar.addi (wE p d) (wG p d)
def wJ (p : Fin 12) (d : Dev nD) : BitVec 32 := Scalar.addi (wE p d) (wF p d)
def wK (p : Fin 12) (d : Dev nD) : BitVec 32 :=
  Scalar.addi (Scalar.muli (f1 p d) (w (4 * U p))) (Scalar.addi (wE p d) (wF p d))

/-- A row offset from a word. -/
abbrev at0 (v : BitVec 32) : Fin 2 → ℕ := ![v.toNat, 0]

/-- The parities as numbers. -/
def b1 (p : Fin 12) (d : Dev nD) : ℕ := (f1 p d).toNat
def b2 (p : Fin 12) (d : Dev nD) : ℕ := (f2 p d).toNat
def b3 (p : Fin 12) (d : Dev nD) : ℕ := (f3 p d).toNat

theorem b_lt : ∀ p d, b1 p d < 2 ∧ b2 p d < 2 ∧ b3 p d < 2 := by decide +kernel

/-- Every place, in closed form: rows counted in eighths. -/
theorem places : ∀ p d,
    (wA p d).toNat = (1 - b1 p d) * (4 * U p) ∧
    (wB p d).toNat = b1 p d * (4 * U p) + (1 - b2 p d) * (2 * U p) ∧
    (wC p d).toNat = (1 - b2 p d) * (2 * U p) ∧
    (wDd p d).toNat = b1 p d * (4 * U p) + b2 p d * (2 * U p) ∧
    (wE p d).toNat = b2 p d * (2 * U p) ∧
    (wF p d).toNat = (1 - b3 p d) * U p ∧
    (wG p d).toNat = b3 p d * U p ∧
    (wH p d).toNat = b1 p d * (4 * U p) + b2 p d * (2 * U p) + b3 p d * U p ∧
    (wI p d).toNat = b2 p d * (2 * U p) + b3 p d * U p ∧
    (wJ p d).toNat = b2 p d * (2 * U p) + (1 - b3 p d) * U p ∧
    (wK p d).toNat = b1 p d * (4 * U p) + b2 p d * (2 * U p) + (1 - b3 p d) * U p := by
  decide +kernel

/-- The places in the result array, in closed form. -/
theorem places_out : ∀ p d,
    (Scalar.addi (w (offs p)) (wA p d)).toNat = offs p + (wA p d).toNat ∧
    (Scalar.addi (w (offs p)) (wB p d)).toNat = offs p + (wB p d).toNat ∧
    (Scalar.addi (w (offs p)) (wH p d)).toNat = offs p + (wH p d).toNat ∧
    (Scalar.addi (w (offs p)) (wK p d)).toNat = offs p + (wK p d).toNat := by
  decide +kernel

/-- What every part's size satisfies. -/
theorem U_facts : ∀ p, 0 < U p ∧ 16 ∣ U p ∧ offs p + 8 * U p ≤ 4096 := by decide +kernel

/-! ## Buffers -/

/-- The part of the input, part by part. -/
def xv : (p : Fin 12) → Memref sig .tc .vmem (sh (8 * U p)) .f32
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5
  | 6 => Memref.whole cc0_scratch6
  | 7 => Memref.whole cc0_scratch7
  | 8 => Memref.whole cc0_scratch8
  | 9 => Memref.whole cc0_scratch9
  | 10 => Memref.whole cc0_scratch10
  | 11 => Memref.whole cc0_scratch11

theorem xv_whole : ∀ p, (xv p).IsWhole := by
  intro p; fin_cases p <;> exact Memref.isWhole_whole _

/-- The part of the result being assembled, part by part. -/
def ov : (p : Fin 12) → Memref sig .tc .vmem (sh (8 * U p)) .f32
  | 0 => Memref.whole cc0_scratch12
  | 1 => Memref.whole cc0_scratch13
  | 2 => Memref.whole cc0_scratch14
  | 3 => Memref.whole cc0_scratch15
  | 4 => Memref.whole cc0_scratch16
  | 5 => Memref.whole cc0_scratch17
  | 6 => Memref.whole cc0_scratch18
  | 7 => Memref.whole cc0_scratch19
  | 8 => Memref.whole cc0_scratch20
  | 9 => Memref.whole cc0_scratch21
  | 10 => Memref.whole cc0_scratch22
  | 11 => Memref.whole cc0_scratch23

theorem ov_whole : ∀ p, (ov p).IsWhole := by
  intro p; fin_cases p <;> exact Memref.isWhole_whole _

/-- What the first exchange sends, part by part. -/
def s1 : (p : Fin 12) → Memref sig .tc .vmem (sh (4 * U p)) .bf16
  | 0 => Memref.whole cc0_scratch24
  | 1 => Memref.whole cc0_scratch25
  | 2 => Memref.whole cc0_scratch26
  | 3 => Memref.whole cc0_scratch27
  | 4 => Memref.whole cc0_scratch28
  | 5 => Memref.whole cc0_scratch29
  | 6 => Memref.whole cc0_scratch30
  | 7 => Memref.whole cc0_scratch31
  | 8 => Memref.whole cc0_scratch32
  | 9 => Memref.whole cc0_scratch33
  | 10 => Memref.whole cc0_scratch34
  | 11 => Memref.whole cc0_scratch35

theorem s1_whole : ∀ p, (s1 p).IsWhole := by
  intro p; fin_cases p <;> exact Memref.isWhole_whole _

/-- What the first exchange brings, part by part. -/
def r1 : (p : Fin 12) → Memref sig .tc .vmem (sh (4 * U p)) .bf16
  | 0 => Memref.whole cc0_scratch36
  | 1 => Memref.whole cc0_scratch37
  | 2 => Memref.whole cc0_scratch38
  | 3 => Memref.whole cc0_scratch39
  | 4 => Memref.whole cc0_scratch40
  | 5 => Memref.whole cc0_scratch41
  | 6 => Memref.whole cc0_scratch42
  | 7 => Memref.whole cc0_scratch43
  | 8 => Memref.whole cc0_scratch44
  | 9 => Memref.whole cc0_scratch45
  | 10 => Memref.whole cc0_scratch46
  | 11 => Memref.whole cc0_scratch47

theorem r1_whole : ∀ p, (r1 p).IsWhole := by
  intro p; fin_cases p <;> exact Memref.isWhole_whole _

/-- The running sum, part by part. -/
def ac : (p : Fin 12) → Memref sig .tc .vmem (sh (2 * U p)) .f32
  | 0 => Memref.whole cc0_scratch48
  | 1 => Memref.whole cc0_scratch49
  | 2 => Memref.whole cc0_scratch50
  | 3 => Memref.whole cc0_scratch51
  | 4 => Memref.whole cc0_scratch52
  | 5 => Memref.whole cc0_scratch53
  | 6 => Memref.whole cc0_scratch54
  | 7 => Memref.whole cc0_scratch55
  | 8 => Memref.whole cc0_scratch56
  | 9 => Memref.whole cc0_scratch57
  | 10 => Memref.whole cc0_scratch58
  | 11 => Memref.whole cc0_scratch59

theorem ac_whole : ∀ p, (ac p).IsWhole := by
  intro p; fin_cases p <;> exact Memref.isWhole_whole _

/-- What the second exchange sends, part by part. -/
def s2 : (p : Fin 12) → Memref sig .tc .vmem (sh (2 * U p)) .bf16
  | 0 => Memref.whole cc0_scratch60
  | 1 => Memref.whole cc0_scratch61
  | 2 => Memref.whole cc0_scratch62
  | 3 => Memref.whole cc0_scratch63
  | 4 => Memref.whole cc0_scratch64
  | 5 => Memref.whole cc0_scratch65
  | 6 => Memref.whole cc0_scratch66
  | 7 => Memref.whole cc0_scratch67
  | 8 => Memref.whole cc0_scratch68
  | 9 => Memref.whole cc0_scratch69
  | 10 => Memref.whole cc0_scratch70
  | 11 => Memref.whole cc0_scratch71

theorem s2_whole : ∀ p, (s2 p).IsWhole := by
  intro p; fin_cases p <;> exact Memref.isWhole_whole _

/-- What the second exchange brings, part by part. -/
def r2 : (p : Fin 12) → Memref sig .tc .vmem (sh (2 * U p)) .bf16
  | 0 => Memref.whole cc0_scratch72
  | 1 => Memref.whole cc0_scratch73
  | 2 => Memref.whole cc0_scratch74
  | 3 => Memref.whole cc0_scratch75
  | 4 => Memref.whole cc0_scratch76
  | 5 => Memref.whole cc0_scratch77
  | 6 => Memref.whole cc0_scratch78
  | 7 => Memref.whole cc0_scratch79
  | 8 => Memref.whole cc0_scratch80
  | 9 => Memref.whole cc0_scratch81
  | 10 => Memref.whole cc0_scratch82
  | 11 => Memref.whole cc0_scratch83

theorem r2_whole : ∀ p, (r2 p).IsWhole := by
  intro p; fin_cases p <;> exact Memref.isWhole_whole _

/-- What the third exchange sends, part by part. -/
def s3 : (p : Fin 12) → Memref sig .tc .vmem (sh (U p)) .bf16
  | 0 => Memref.whole cc0_scratch84
  | 1 => Memref.whole cc0_scratch85
  | 2 => Memref.whole cc0_scratch86
  | 3 => Memref.whole cc0_scratch87
  | 4 => Memref.whole cc0_scratch88
  | 5 => Memref.whole cc0_scratch89
  | 6 => Memref.whole cc0_scratch90
  | 7 => Memref.whole cc0_scratch91
  | 8 => Memref.whole cc0_scratch92
  | 9 => Memref.whole cc0_scratch93
  | 10 => Memref.whole cc0_scratch94
  | 11 => Memref.whole cc0_scratch95

theorem s3_whole : ∀ p, (s3 p).IsWhole := by
  intro p; fin_cases p <;> exact Memref.isWhole_whole _

/-- What the third exchange brings, part by part. -/
def r3 : (p : Fin 12) → Memref sig .tc .vmem (sh (U p)) .bf16
  | 0 => Memref.whole cc0_scratch96
  | 1 => Memref.whole cc0_scratch97
  | 2 => Memref.whole cc0_scratch98
  | 3 => Memref.whole cc0_scratch99
  | 4 => Memref.whole cc0_scratch100
  | 5 => Memref.whole cc0_scratch101
  | 6 => Memref.whole cc0_scratch102
  | 7 => Memref.whole cc0_scratch103
  | 8 => Memref.whole cc0_scratch104
  | 9 => Memref.whole cc0_scratch105
  | 10 => Memref.whole cc0_scratch106
  | 11 => Memref.whole cc0_scratch107

theorem r3_whole : ∀ p, (r3 p).IsWhole := by
  intro p; fin_cases p <;> exact Memref.isWhole_whole _

/-- The gathered half of the result, part by part. -/
def gv : (p : Fin 12) → Memref sig .tc .vmem (sh (4 * U p)) .bf16
  | 0 => Memref.whole cc0_scratch108
  | 1 => Memref.whole cc0_scratch109
  | 2 => Memref.whole cc0_scratch110
  | 3 => Memref.whole cc0_scratch111
  | 4 => Memref.whole cc0_scratch112
  | 5 => Memref.whole cc0_scratch113
  | 6 => Memref.whole cc0_scratch114
  | 7 => Memref.whole cc0_scratch115
  | 8 => Memref.whole cc0_scratch116
  | 9 => Memref.whole cc0_scratch117
  | 10 => Memref.whole cc0_scratch118
  | 11 => Memref.whole cc0_scratch119

theorem gv_whole : ∀ p, (gv p).IsWhole := by
  intro p; fin_cases p <;> exact Memref.isWhole_whole _

/-- The other half of the result, part by part. -/
def g2 : (p : Fin 12) → Memref sig .tc .vmem (sh (4 * U p)) .bf16
  | 0 => Memref.whole cc0_scratch120
  | 1 => Memref.whole cc0_scratch121
  | 2 => Memref.whole cc0_scratch122
  | 3 => Memref.whole cc0_scratch123
  | 4 => Memref.whole cc0_scratch124
  | 5 => Memref.whole cc0_scratch125
  | 6 => Memref.whole cc0_scratch126
  | 7 => Memref.whole cc0_scratch127
  | 8 => Memref.whole cc0_scratch128
  | 9 => Memref.whole cc0_scratch129
  | 10 => Memref.whole cc0_scratch130
  | 11 => Memref.whole cc0_scratch131

theorem g2_whole : ∀ p, (g2 p).IsWhole := by
  intro p; fin_cases p <;> exact Memref.isWhole_whole _
/-- The input array and the result array of a device. -/
def xin : Memref sig .tc .hbm S4096x1024 .f32 := Memref.whole main_arg0
def yout : Memref sig .tc .hbm S4096x1024 .f32 := Memref.whole main_v1

/-! ## Semaphores -/

/-- The semaphore of the send side of exchange `i` of part `p`. -/
def sndS (p : Fin 12) (i : Fin 6) : DmaSem sig := ⟨6 * p.val + i.val, by have := p.isLt; have := i.isLt; show _ < 204; omega⟩
/-- The semaphore of the receive side of exchange `i` of part `p`. -/
def rcvS (p : Fin 12) (i : Fin 6) : DmaSem sig := ⟨72 + (6 * p.val + i.val), by have := p.isLt; have := i.isLt; show _ < 204; omega⟩
/-- The semaphore of the copy of part `p` of the input. -/
def xS (p : Fin 12) : DmaSem sig := ⟨144 + p.val, by have := p.isLt; show _ < 204; omega⟩
/-- The semaphores of the four copies of part `p` into the result. -/
def oS (p : Fin 12) (k : Fin 4) : DmaSem sig := ⟨156 + (4 * p.val + k.val), by have := p.isLt; have := k.isLt; show _ < 204; omega⟩
/-- The barrier semaphore. -/
def barS : Sem sig := sig.barrier 0 rfl

end Cert.AllReduce

end
-- ==== Proof.Flat.lean ====
/-
# The kernel's body, stage by stage

The printed body is one long sequence of memory operations. Here it is written as a list of stages, each applied to a
part: `flat d` runs the stages of `sched` in order on device `d`. That the printed body reads its device and then
runs `flat` is `body_flat`.
-/
module

public import proofs.«01_k».proof.Proof.Parts

@[expose] public section

noncomputable section

namespace Cert.AllReduce

open Cert.KernelIdeal Cert.KernelIdeal.Gen
open Idealize.ShloMosaic Idealize.ShloMosaic.TcCoe Idealize.SL.Sem

variable {F : FTy → Type} [FloatOps F]

/-- The kernel's programs. -/
abbrev PG (F : FTy → Type) [FloatOps F] : Type 1 := Prog (TpuEff nD τ sig (Elt F) Λ₀ .tc) PUnit

/-! ## Rectangles of rows -/

/-- `k` rows from row `o 0` lie inside `n` rows. -/
abbrev Inb (n k : ℕ) (o : Fin 2 → ℕ) : Prop := ∀ a, o a + (sh k).size a ≤ (sh n).size a

theorem inb_at {n k : ℕ} {v : BitVec 32} (h : v.toNat + k ≤ n) : Inb n k (at0 v) := by
  intro a; fin_cases a
  · exact h
  · show 0 + 1024 ≤ 1024; omega

theorem inb_00 {n k : ℕ} (h : k ≤ n) : Inb n k ![0, 0] := by
  intro a; fin_cases a
  · show 0 + k ≤ n; omega
  · show 0 + 1024 ≤ 1024; omega

theorem inb_n {n k o : ℕ} (h : o + k ≤ n) : Inb n k ![o, 0] := by
  intro a; fin_cases a
  · exact h
  · show 0 + 1024 ≤ 1024; omega

/-- `k` rows from `o`. -/
abbrev rc (n k : ℕ) (o : Fin 2 → ℕ) (h : Inb n k o) : Rect (sh n) := Rect.unit (s := sh n) o (sh k).size h

theorem numel_pos {k : ℕ} (h : 0 < k) : 0 < (sh k).numel := by
  simp only [Shape.numel, Fin.prod_univ_two]
  show 0 < k * 1024
  omega

/-- Rows starting at an even row, of even number, are whole packed rows of a 16-bit buffer. -/
theorem packed {n k : ℕ} {o : Fin 2 → ℕ} (h : Inb n k o) (ho : 2 ∣ o 0) (hk : 2 ∣ k) :
    (rc n k o h).PackedRows (EltTy.packing .bf16) :=
  Or.inr ⟨Nat.le_refl 2, rfl, Or.inl ⟨ho, hk⟩⟩

theorem words {n k : ℕ} {o : Fin 2 → ℕ} (h : Inb n k o) (ho : 2 ∣ o 0) (hk : 2 ∣ k) :
    (rc n k o h).WholeWords (EltTy.packing .bf16) := Or.inl (packed h ho hk)

/-! ## One operation, then the rest -/

/-- Read `k` rows of `mr`. -/
def ld {n k : ℕ} {e : EltTy} (mr : Memref sig .tc .vmem (sh n) e) (o : Fin 2 → ℕ) (h : Inb n k o) (hk : 0 < k)
    (K : Vec F (sh k) e → PG F) : PG F :=
  .op (.load mr (rc n k o h).toLoadRect (View.loadsAt_vmem (numel_pos hk))) K

/-- Write `k` rows of a 32-bit buffer. -/
def stF {n k : ℕ} (mr : Memref sig .tc .vmem (sh n) .f32) (o : Fin 2 → ℕ) (h : Inb n k o) (hk : 0 < k)
    (v : Vec F (sh k) .f32) (K : PG F) : PG F :=
  .op (.store mr (rc n k o h) v Finset.univ (View.stores_vmem_bits_univ (numel_pos hk) rfl) (.inl rfl)) fun _ => K

/-- Write `k` rows of a 16-bit buffer. -/
def stH {n k : ℕ} (mr : Memref sig .tc .vmem (sh n) .bf16) (hw : mr.IsWhole) (o : Fin 2 → ℕ) (h : Inb n k o) (hk : 0 < k)
    (ho : 2 ∣ o 0) (h2 : 2 ∣ k) (v : Vec F (sh k) .bf16) (K : PG F) : PG F :=
  .op (.store mr (rc n k o h) v Finset.univ
    (View.stores_vmem (numel_pos hk) (hw.storeExact_slice rfl _ (packed h ho h2)) (fun _ => rfl)) (.inl rfl)) fun _ => K

/-- Send a buffer (or rows of it) to the device met in direction `j`. -/
def rsend {k : ℕ} (src dst : Memref sig .tc .vmem (sh k) .bf16) (hs : src.view.WordExact) (hd : dst.view.WordExact)
    (j : Fin 3) (d : Dev nD) (s r : DmaSem sig) (K : PG F) : PG F :=
  .op (.enqueueDma src (.remote (Dev.tc (nb j d)) dst (.dma s)) (.dma r) hs hd ⟨⟨rfl, Or.inl rfl⟩, trivial⟩) fun _ => K

/-- Wait for both sides of an exchange: its send, then its landing. -/
def rwait {k : ℕ} (src dst : Memref sig .tc .vmem (sh k) .bf16) (hs : src.view.WordExact) (hd : dst.view.WordExact)
    (s r : DmaSem sig) (K : PG F) : PG F :=
  .op (.waitDma2 s dst src hd hs) fun _ => .op (.waitDma2 r src dst hs hd) fun _ => K

/-- Rows of a memref, as a memref. -/
abbrev rows {sp : Space} {n k : ℕ} {e : EltTy} (mr : Memref sig .tc sp (sh n) e) (o : Fin 2 → ℕ) (h : Inb n k o) :
    Memref sig .tc sp (sh k) e := mr.slice (rc n k o h) (fun _ => rfl)

/-- Copy `k` rows of a part of the result to the result array. -/
def put {n k : ℕ} (mr : Memref sig .tc .vmem (sh n) .f32) (o : Fin 2 → ℕ) (h : Inb n k o) (o' : Fin 2 → ℕ) (h' : Inb 4096 k o')
    (s : DmaSem sig) (K : PG F) : PG F :=
  .op (.enqueueDma (rows mr o h) (.here (rows yout o' h')) (.dma s) (View.wordExact_bits rfl) (View.wordExact_bits rfl)
    ⟨Or.inl rfl, trivial⟩) fun _ => K

/-- Wait for such a copy. -/
def pwait {n k : ℕ} (mr : Memref sig .tc .vmem (sh n) .f32) (o : Fin 2 → ℕ) (h : Inb n k o) (o' : Fin 2 → ℕ) (h' : Inb 4096 k o')
    (s : DmaSem sig) (K : PG F) : PG F :=
  .op (.waitDma2 s (rows mr o h) (rows yout o' h') (View.wordExact_bits rfl) (View.wordExact_bits rfl)) fun _ => K

/-! ## Values -/

theorem casts_refl (s : Shape) : s.ShapeCasts s := rfl

/-- Narrow to 16 bits. -/
def tr {k : ℕ} (v : Vec F (sh k) .f32) : Vec F (sh k) .bf16 := truncf .bf16 v bitsLt_bf16_f32
/-- Widen to 32 bits. -/
def ex {k : ℕ} (v : Vec F (sh k) .bf16) : Vec F (sh k) .f32 := extf .f32 v bitsLt_bf16_f32
/-- Add what came in. -/
def ad {k : ℕ} (v : Vec F (sh k) .f32) (r : Vec F (sh k) .bf16) : Vec F (sh k) .f32 := addf v (ex r)
/-- The activation. -/
def fv {k : ℕ} (s : Vec F (sh k) .f32) : Vec F (sh k) .f32 :=
  let z : Vec F (sh k) .f32 := broadcast (sh k) (Scalar.ofBits .f32 0x00000000#32)
  let r : Vec F (sh k) .f32 := maximumf s z
  addf (mulf (mulf (tanh s) s) s) (mulf (mulf r r) r)
/-- A cast to the same shape, as the printed stores apply. -/
def sc {k : ℕ} {e : FTy} (v : FVec F (sh k) e) : FVec F (sh k) e := shapeCast (sh k) v (casts_refl _)

/-! ## What fits -/

theorem fitA : ∀ p d, (wA p d).toNat + 4 * U p ≤ 8 * U p := by decide +kernel
theorem fitB : ∀ p d, (wB p d).toNat + 2 * U p ≤ 8 * U p := by decide +kernel
theorem fitC : ∀ p d, (wC p d).toNat + 2 * U p ≤ 4 * U p := by decide +kernel
theorem fitD : ∀ p d, (wDd p d).toNat + 2 * U p ≤ 8 * U p := by decide +kernel
theorem fitE : ∀ p d, (wE p d).toNat + 2 * U p ≤ 4 * U p := by decide +kernel
theorem fitF : ∀ p d, (wF p d).toNat + U p ≤ 2 * U p := by decide +kernel
theorem fitG : ∀ p d, (wG p d).toNat + U p ≤ 2 * U p := by decide +kernel
theorem fitH : ∀ p d, (wH p d).toNat + U p ≤ 8 * U p := by decide +kernel
theorem fitI : ∀ p d, (wI p d).toNat + U p ≤ 4 * U p := by decide +kernel
theorem fitJ : ∀ p d, (wJ p d).toNat + U p ≤ 4 * U p := by decide +kernel
theorem fitK : ∀ p d, (wK p d).toNat + U p ≤ 8 * U p := by decide +kernel
theorem fitOut : ∀ p d,
    (Scalar.addi (w (offs p)) (wA p d)).toNat + 4 * U p ≤ 4096 ∧
    (Scalar.addi (w (offs p)) (wB p d)).toNat + 2 * U p ≤ 4096 ∧
    (Scalar.addi (w (offs p)) (wH p d)).toNat + U p ≤ 4096 ∧
    (Scalar.addi (w (offs p)) (wK p d)).toNat + U p ≤ 4096 := by decide +kernel
theorem evenI : ∀ p d, 2 ∣ (wI p d).toNat := by decide +kernel
theorem evenE : ∀ p d, 2 ∣ (wE p d).toNat := by decide +kernel
theorem pos1 : ∀ p, 0 < U p := by decide +kernel
theorem pos2 : ∀ p, 0 < 2 * U p := by decide +kernel
theorem pos4 : ∀ p, 0 < 4 * U p := by decide +kernel
theorem even1 : ∀ p, 2 ∣ U p := by decide +kernel
theorem even2 : ∀ p, 2 ∣ 2 * U p := by decide +kernel
theorem even4 : ∀ p, 2 ∣ 4 * U p := by decide +kernel

/-- The place in the result array. -/
abbrev oo (p : Fin 12) (v : BitVec 32) : Fin 2 → ℕ := at0 (Scalar.addi (w (offs p)) v)

/-- Part `p` of the input array. -/
abbrev xpart (p : Fin 12) : Memref sig .tc .hbm (sh (8 * U p)) .f32 :=
  rows (n := 4096) xin ![offs p, 0] (inb_n (U_facts p).2.2)

/-- The eighth, and the quarter, of the gathered half that a device sends on. -/
abbrev gI (p : Fin 12) (d : Dev nD) : Memref sig .tc .vmem (sh (U p)) .bf16 := rows (gv p) (at0 (wI p d)) (inb_at (fitI p d))
abbrev gE (p : Fin 12) (d : Dev nD) : Memref sig .tc .vmem (sh (2 * U p)) .bf16 := rows (gv p) (at0 (wE p d)) (inb_at (fitE p d))

theorem gI_words (p : Fin 12) (d : Dev nD) : (gI p d).view.WordExact :=
  (gv_whole p).wordExact_slice rfl _ (words _ (evenI p d) (even1 p))
theorem gE_words (p : Fin 12) (d : Dev nD) : (gE p d).view.WordExact :=
  (gv_whole p).wordExact_slice rfl _ (words _ (evenE p d) (even2 p))

/-! ## The stages -/

section Stages
variable (p : Fin 12) (d : Dev nD) (K : PG F)

/-- Start the copy of part `p` of the input. -/
def tX : PG F :=
  .op (.enqueueDma (xpart p) (.here (xv p)) (.dma (xS p)) (View.wordExact_bits rfl) (xv_whole p).wordExact
    ⟨Or.inl rfl, trivial⟩) fun _ => K

/-- Tell the three neighbours that this device has begun, and wait for theirs. -/
def tBar : PG F :=
  .op (.semSignal (Dev.tc (nb 0 d)) barS 1) fun _ => .op (.semSignal (Dev.tc (nb 1 d)) barS 1) fun _ =>
  .op (.semSignal (Dev.tc (nb 2 d)) barS 1) fun _ => .op (.semWait barS 3) fun _ => K

/-- Send half of the part in the first direction. -/
def tR1 : PG F :=
  .op (.waitDma2 (xS p) (xpart p) (xv p) (View.wordExact_bits rfl) (xv_whole p).wordExact) fun _ =>
  ld (xv p) (at0 (wA p d)) (inb_at (fitA p d)) (pos4 p) fun v =>
  ld (s1 p) ![0, 0] (inb_00 (Nat.le_refl _)) (pos4 p) fun _ =>
  stH (s1 p) (s1_whole p) ![0, 0] (inb_00 (Nat.le_refl _)) (pos4 p) (Nat.dvd_zero 2) (even4 p) (sc (tr v)) <|
  rsend (s1 p) (r1 p) (s1_whole p).wordExact (r1_whole p).wordExact (j1 p) d (sndS p 0) (rcvS p 0) K

/-- Receive it; add a quarter of it and send that in the second direction. -/
def tR2 : PG F :=
  rwait (s1 p) (r1 p) (s1_whole p).wordExact (r1_whole p).wordExact (sndS p 0) (rcvS p 0) <|
  ld (xv p) (at0 (wB p d)) (inb_at (fitB p d)) (pos2 p) fun v =>
  ld (r1 p) (at0 (wC p d)) (inb_at (fitC p d)) (pos2 p) fun r =>
  ld (s2 p) ![0, 0] (inb_00 (Nat.le_refl _)) (pos2 p) fun _ =>
  stH (s2 p) (s2_whole p) ![0, 0] (inb_00 (Nat.le_refl _)) (pos2 p) (Nat.dvd_zero 2) (even2 p) (sc (tr (ad v r))) <|
  rsend (s2 p) (r2 p) (s2_whole p).wordExact (r2_whole p).wordExact (j2 p) d (sndS p 1) (rcvS p 1) K

/-- Add the quarter that is kept. -/
def tK2 : PG F :=
  ld (xv p) (at0 (wDd p d)) (inb_at (fitD p d)) (pos2 p) fun v =>
  ld (r1 p) (at0 (wE p d)) (inb_at (fitE p d)) (pos2 p) fun r =>
  ld (ac p) ![0, 0] (inb_00 (Nat.le_refl _)) (pos2 p) fun _ =>
  stF (ac p) ![0, 0] (inb_00 (Nat.le_refl _)) (pos2 p) (sc (ad v r)) K

/-- Receive; add an eighth and send that in the third direction. -/
def tR3 : PG F :=
  rwait (s2 p) (r2 p) (s2_whole p).wordExact (r2_whole p).wordExact (sndS p 1) (rcvS p 1) <|
  ld (ac p) (at0 (wF p d)) (inb_at (fitF p d)) (pos1 p) fun v =>
  ld (r2 p) (at0 (wF p d)) (inb_at (fitF p d)) (pos1 p) fun r =>
  ld (s3 p) ![0, 0] (inb_00 (Nat.le_refl _)) (pos1 p) fun _ =>
  stH (s3 p) (s3_whole p) ![0, 0] (inb_00 (Nat.le_refl _)) (pos1 p) (Nat.dvd_zero 2) (even1 p) (sc (tr (ad v r))) <|
  rsend (s3 p) (r3 p) (s3_whole p).wordExact (r3_whole p).wordExact (j3 p) d (sndS p 2) (rcvS p 2) K

/-- Add the eighth that is kept. -/
def tK3 : PG F :=
  ld (ac p) (at0 (wG p d)) (inb_at (fitG p d)) (pos1 p) fun v =>
  ld (r2 p) (at0 (wG p d)) (inb_at (fitG p d)) (pos1 p) fun r =>
  ld (ac p) ![0, 0] (inb_00 (show U p ≤ 2 * U p by omega)) (pos1 p) fun _ =>
  stF (ac p) ![0, 0] (inb_00 (show U p ≤ 2 * U p by omega)) (pos1 p) (sc (ad v r)) K

/-- Receive the last addend, apply the activation, write the eighth out and send it back in the third direction. -/
def tFin : PG F :=
  rwait (s3 p) (r3 p) (s3_whole p).wordExact (r3_whole p).wordExact (sndS p 2) (rcvS p 2) <|
  ld (ac p) ![0, 0] (inb_00 (show U p ≤ 2 * U p by omega)) (pos1 p) fun v =>
  ld (r3 p) ![0, 0] (inb_00 (Nat.le_refl _)) (pos1 p) fun r =>
  ld (ov p) (at0 (wH p d)) (inb_at (fitH p d)) (pos1 p) fun _ =>
  stF (ov p) (at0 (wH p d)) (inb_at (fitH p d)) (pos1 p) (sc (fv (ad v r))) <|
  put (ov p) (at0 (wH p d)) (inb_at (fitH p d)) (oo p (wH p d)) (inb_at (fitOut p d).2.2.1) (oS p 0) <|
  ld (gv p) (at0 (wI p d)) (inb_at (fitI p d)) (pos1 p) fun _ =>
  stH (gv p) (gv_whole p) (at0 (wI p d)) (inb_at (fitI p d)) (pos1 p) (evenI p d) (even1 p) (sc (tr (fv (ad v r)))) <|
  rsend (gI p d) (gI p d) (gI_words p d) (gI_words p d) (j3 p) d (sndS p 3) (rcvS p 3) K

/-- Receive an eighth; send the quarter back in the second direction. -/
def tA2 : PG F :=
  rwait (gI p d) (gI p d) (gI_words p d) (gI_words p d) (sndS p 3) (rcvS p 3) <|
  rsend (gE p d) (gE p d) (gE_words p d) (gE_words p d) (j2 p) d (sndS p 4) (rcvS p 4) K

/-- Write the received eighth out. -/
def tO1 : PG F :=
  ld (gv p) (at0 (wJ p d)) (inb_at (fitJ p d)) (pos1 p) fun v =>
  ld (ov p) (at0 (wK p d)) (inb_at (fitK p d)) (pos1 p) fun _ =>
  stF (ov p) (at0 (wK p d)) (inb_at (fitK p d)) (pos1 p) (sc (ex v)) <|
  put (ov p) (at0 (wK p d)) (inb_at (fitK p d)) (oo p (wK p d)) (inb_at (fitOut p d).2.2.2) (oS p 1) K

/-- Receive a quarter; send the half back in the first direction. -/
def tA3 : PG F :=
  rwait (gE p d) (gE p d) (gE_words p d) (gE_words p d) (sndS p 4) (rcvS p 4) <|
  rsend (gv p) (g2 p) (gv_whole p).wordExact (g2_whole p).wordExact (j1 p) d (sndS p 5) (rcvS p 5) K

/-- Write the received quarter out. -/
def tO2 : PG F :=
  ld (gv p) (at0 (wC p d)) (inb_at (fitC p d)) (pos2 p) fun v =>
  ld (ov p) (at0 (wB p d)) (inb_at (fitB p d)) (pos2 p) fun _ =>
  stF (ov p) (at0 (wB p d)) (inb_at (fitB p d)) (pos2 p) (sc (ex v)) <|
  put (ov p) (at0 (wB p d)) (inb_at (fitB p d)) (oo p (wB p d)) (inb_at (fitOut p d).2.1) (oS p 2) K

/-- Receive the other half and write it out. -/
def tT : PG F :=
  rwait (gv p) (g2 p) (gv_whole p).wordExact (g2_whole p).wordExact (sndS p 5) (rcvS p 5) <|
  ld (g2 p) ![0, 0] (inb_00 (Nat.le_refl _)) (pos4 p) fun v =>
  ld (ov p) (at0 (wA p d)) (inb_at (fitA p d)) (pos4 p) fun _ =>
  stF (ov p) (at0 (wA p d)) (inb_at (fitA p d)) (pos4 p) (sc (ex v)) <|
  put (ov p) (at0 (wA p d)) (inb_at (fitA p d)) (oo p (wA p d)) (inb_at (fitOut p d).1) (oS p 3) K

/-- Wait for the four copies into the result array. -/
def tW : PG F :=
  pwait (ov p) (at0 (wH p d)) (inb_at (fitH p d)) (oo p (wH p d)) (inb_at (fitOut p d).2.2.1) (oS p 0) <|
  pwait (ov p) (at0 (wK p d)) (inb_at (fitK p d)) (oo p (wK p d)) (inb_at (fitOut p d).2.2.2) (oS p 1) <|
  pwait (ov p) (at0 (wB p d)) (inb_at (fitB p d)) (oo p (wB p d)) (inb_at (fitOut p d).2.1) (oS p 2) <|
  pwait (ov p) (at0 (wA p d)) (inb_at (fitA p d)) (oo p (wA p d)) (inb_at (fitOut p d).1) (oS p 3) K

end Stages

/-- The stages a part passes, in order. -/
inductive Stage where
  | X | R1 | R2 | K2 | R3 | K3 | Fin | A2 | O1 | A3 | O2 | T | W
  deriving DecidableEq

/-- A stage of a part on a device, then the rest. -/
def stage : Stage → Fin 12 → Dev nD → PG F → PG F
  | .X, p, _, K => tX p K
  | .R1, p, d, K => tR1 p d K
  | .R2, p, d, K => tR2 p d K
  | .K2, p, d, K => tK2 p d K
  | .R3, p, d, K => tR3 p d K
  | .K3, p, d, K => tK3 p d K
  | .Fin, p, d, K => tFin p d K
  | .A2, p, d, K => tA2 p d K
  | .O1, p, d, K => tO1 p d K
  | .A3, p, d, K => tA3 p d K
  | .O2, p, d, K => tO2 p d K
  | .T, p, d, K => tT p d K
  | .W, p, d, K => tW p d K

/-- Run a list of stages, then the rest. -/
def runs (d : Dev nD) : List (Stage × Fin 12) → PG F → PG F
  | [], K => K
  | (s, p) :: l, K => stage s p d (runs d l K)

/-- The four generations of three parts. -/
def gens : List (List (Fin 12)) := [[0, 1, 2], [3, 4, 5], [6, 7, 8], [9, 10, 11]]

/-- The stages before the barrier. -/
def sched₀ : List (Stage × Fin 12) := [0, 1, 2, 3, 4, 5, 6, 7, 8, 9, 10, 11].map fun p => (.X, p)

/-- The stages after the barrier: phase after phase, in each phase generation after generation. -/
def sched₁ : List (Stage × Fin 12) :=
  [[Stage.R1], [.R2, .K2], [.R3, .K3], [.Fin], [.A2, .O1], [.A3, .O2], [.T]].flatMap (fun ss =>
    gens.flatMap fun g => ss.flatMap fun s => g.map fun p => (s, p))
  ++ [0, 1, 2, 3, 4, 5, 6, 7, 8, 9, 10, 11].map fun p => (.W, p)

/-- What device `d` does. -/
def flat (d : Dev nD) : PG F := runs d sched₀ (tBar d (runs d sched₁ (.ret ⟨⟩)))

set_option maxRecDepth 100000 in
/-- The printed body reads its device, then runs the stages. -/
theorem body_flat (t : Fin cfg0.N) : bodyAt0 (F := F) t = .op .deviceId fun d => flat d := by
  chain_rfl

end Cert.AllReduce

end
-- ==== Proof.Hold.lean ====
/-
# Holding rows of a buffer

`holds c mr q o k T`: device `c` holds, at share `q`, the `k` rows from row `o` of the buffer behind `mr`, and row `r`
reads `T r` there. Rows split and join, and the kernel's reads and writes of rows are rules about them.
-/
module

public import proofs.«01_k».proof.Proof.Flat
public import Idealize.ShloMosaic.Lib.Pipeline.Launch
public import Idealize.ShloMosaic.Lib.Pipeline.Kit
public import Idealize.ShloMosaic.Lib.Tactic
public import Idealize.ShloMosaic.Lib.Memref

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds algebra of this protocol: a cell has up to three duties. -/
abbrev UB : Type := URounds (GSem nD τ sig) (Fin 3)

/-- The pipeline's algebra beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No loop variants. -/
abbrev 𝒱₀ : Variants := Variants.none

/-- Contents by row and column. -/
abbrev Rows (F : FTy → Type) (e : EltTy) : Type := ℕ → ℕ → Elt F e

/-- `k` rows from row `o`, as indices. -/
def band (n o k : ℕ) : Finset (sh n).Idx := Finset.univ.filter fun i => o ≤ (i 0).val ∧ (i 0).val < o + k

theorem mem_band {n o k : ℕ} {i : (sh n).Idx} : i ∈ band n o k ↔ o ≤ (i 0).val ∧ (i 0).val < o + k := by
  simp [band]

theorem band_all (n : ℕ) : band n 0 n = Finset.univ := by
  ext i; simp only [mem_band, Finset.mem_univ, iff_true]
  have h : (i 0).val < n := (i 0).isLt
  omega

theorem band_add (n o k l : ℕ) : band n o (k + l) = band n o k ∪ band n (o + k) l := by
  ext i; simp only [mem_band, Finset.mem_union]; omega

theorem band_disj (n o k l : ℕ) : Disjoint (band n o k) (band n (o + k) l) := by
  rw [Finset.disjoint_left]; intro i h h'
  rw [mem_band] at h h'; omega

theorem rc_set {n k : ℕ} {o : Fin 2 → ℕ} (h : Inb n k o) (h1 : o 1 = 0) : (rc n k o h).set = band n (o 0) k := by
  ext i
  rw [Rect.mem_set_unit, mem_band]
  constructor
  · intro H; exact H 0
  · intro H a
    fin_cases a
    · exact H
    · show o 1 ≤ (i 1).val ∧ (i 1).val < o 1 + 1024
      have : (i 1).val < 1024 := (i 1).isLt
      omega

theorem emb_band {n k : ℕ} {o : Fin 2 → ℕ} (h : Inb n k o) (h1 : o 1 = 0) (j : (sh k).Idx) : (rc n k o h).emb j ∈ band n (o 0) k := by
  rw [← rc_set h h1, ← Rect.map_emb_univ]; exact Finset.mem_map_of_mem _ (Finset.mem_univ j)

theorem of_band {n k : ℕ} {o : Fin 2 → ℕ} (h : Inb n k o) (h1 : o 1 = 0) {i : (sh n).Idx} (hi : i ∈ band n (o 0) k) :
    ∃ j : (sh k).Idx, (rc n k o h).emb j = i := by
  rw [← rc_set h h1, ← Rect.map_emb_univ] at hi
  obtain ⟨j, _, hj⟩ := Finset.mem_map.mp hi
  exact ⟨j, hj⟩

/-- The rows of a window, counted from its first. -/
def win {e : EltTy} {k : ℕ} (T : Rows F e) (o : ℕ) : (sh k).Idx → Elt F e := fun j => T (o + (j 0).val) (j 1).val

/-- The device holds these rows, at these contents. -/
def holds (c : Dev nD) {sp : Space} {n : ℕ} {e : EltTy} (mr : Memref sig .tc sp (sh n) e) (q : PosShare TreeShare)
    (o k : ℕ) (T : Rows F e) : sProp 𝕄 :=
  iprop(∃ g : Buf (Elt F) (mr.view.loc (c : Thread nD τ)),
    ⌜∀ i ∈ band n o k, mr.view.read (Elt F) g i = T (i 0).val (i 1).val⌝
      ∗ (mr.view.loc (c : Thread nD τ) ↦[mr.view.setOn (band n o k)]{q} g))

/-- The device holds these rows, at some contents. -/
def anyh (c : Dev nD) {sp : Space} {n : ℕ} {e : EltTy} (mr : Memref sig .tc sp (sh n) e) (o k : ℕ) : sProp 𝕄 :=
  iprop(∃ T : Rows F e, holds c mr fullShare o k T)

section Holds

variable (c : Dev nD) {sp : Space} {n : ℕ} {e : EltTy} (mr : Memref sig .tc sp (sh n) e) (q : PosShare TreeShare)
  (o k l : ℕ) (T : Rows F e)

instance holds_storable : BI.Storable (upEmb : UEmb _ 𝕄) (holds c mr q o k T) := by unfold holds; infer_instance
instance anyh_storable : BI.Storable (upEmb : UEmb _ 𝕄) (anyh (F := F) c mr o k) := by unfold anyh; infer_instance

theorem equal_of {P Q : sProp 𝕄} (h : P ⊢ Q) (h' : Q ⊢ P) : P = Q := BI.equiv_iff.mp ⟨h, h'⟩

/-- With contents of the whole buffer in hand, holding is a plain points-to. -/
theorem holds_eq (g : Buf (Elt F) (mr.view.loc (c : Thread nD τ)))
    (hg : ∀ i ∈ band n o k, mr.view.read (Elt F) g i = T (i 0).val (i 1).val) :
    holds c mr q o k T = (mr.view.loc (c : Thread nD τ) ↦[mr.view.setOn (band n o k)]{q} g : sProp 𝕄) := by
  refine equal_of ?_ ?_
  · unfold holds
    iintro ⟨%g', %hg', H⟩
    have hc : ∀ i ∈ mr.view.setOn (band n o k), g' i = g i := by
      intro i hi
      obtain ⟨x, hx, rfl⟩ := Finset.mem_map.mp hi
      have h1 := (hg' x hx).trans (hg x hx).symm
      rw [View.read_apply, View.read_apply] at h1
      exact (Equiv.cast (congrArg (Elt F) mr.view.elt_eq)).injective h1
    iapply (Entails.of_eq (pointsTo_congr hc))
    iexact H
  · unfold holds
    iintro H
    iexists g
    isplitr; · ipureintro; exact hg
    iexact H

theorem holds_congr {T T' : Rows F e} (h : ∀ i : (sh n).Idx, o ≤ (i 0).val → (i 0).val < o + k → T (i 0).val (i 1).val = T' (i 0).val (i 1).val) :
    (holds c mr q o k T : sProp 𝕄) ⊢ holds c mr q o k T' := by
  unfold holds
  iintro ⟨%g, %hg, H⟩
  iexists g
  isplitr
  · ipureintro
    intro i hi
    rw [hg i hi]
    exact h i (mem_band.mp hi).1 (mem_band.mp hi).2
  iexact H

/-- Contents chosen by the row. -/
def glue (o : ℕ) (T T' : Rows F e) : Rows F e := fun r s => if r < o then T r s else T' r s

theorem holds_split : (holds c mr q o (k + l) T : sProp 𝕄) ⊢ iprop(holds c mr q o k T ∗ holds c mr q (o + k) l T) := by
  unfold holds
  iintro ⟨%g, %hg, H⟩
  have hs : mr.view.setOn (band n o (k + l)) = mr.view.setOn (band n o k) ∪ mr.view.setOn (band n (o + k) l) := by
    unfold View.setOn; rw [band_add, Finset.map_union]
  have hd : Disjoint (mr.view.setOn (band n o k)) (mr.view.setOn (band n (o + k) l)) := by
    unfold View.setOn; rw [Finset.disjoint_map]; exact band_disj n o k l
  rw [hs]
  ihave H2 := (pointsTo_union hd).1 $$ H
  icases H2 with ⟨H, H'⟩
  isplitl [H]
  · iexists g; isplitr
    · ipureintro; intro i hi; exact hg i (by rw [band_add]; exact Finset.mem_union_left _ hi)
    iexact H
  · iexists g; isplitr
    · ipureintro; intro i hi; exact hg i (by rw [band_add]; exact Finset.mem_union_right _ hi)
    iexact H'

theorem holds_glue (T' : Rows F e) :
    (iprop(holds c mr q o k T ∗ holds c mr q (o + k) l T') : sProp 𝕄) ⊢ holds c mr q o (k + l) (glue (o + k) T T') := by
  unfold holds
  iintro ⟨⟨%g, %hg, H⟩, ⟨%g', %hg', H'⟩⟩
  have hs : mr.view.setOn (band n o (k + l)) = mr.view.setOn (band n o k) ∪ mr.view.setOn (band n (o + k) l) := by
    unfold View.setOn; rw [band_add, Finset.map_union]
  have hd : Disjoint (mr.view.setOn (band n o k)) (mr.view.setOn (band n (o + k) l)) := by
    unfold View.setOn; rw [Finset.disjoint_map]; exact band_disj n o k l
  iexists (mr.view.setOn (band n (o + k) l)).piecewise g' g
  isplitr
  · ipureintro
    intro i hi
    rw [View.read_apply]
    by_cases h : i ∈ band n (o + k) l
    · rw [Finset.piecewise_eq_of_mem _ _ _ (mr.view.mem_setOn.mpr h), ← View.read_apply, hg' i h]
      unfold glue; rw [if_neg]; have := mem_band.mp h; omega
    · rw [Finset.piecewise_eq_of_notMem _ _ _ (fun h' => h (mr.view.mem_setOn.mp h')), ← View.read_apply]
      have h2 : i ∈ band n o k := by
        rw [band_add, Finset.mem_union] at hi; exact hi.resolve_right h
      rw [hg i h2]
      unfold glue; rw [if_pos]; have := mem_band.mp h2; omega
  · rw [hs]
    iapply (pointsTo_join hd)
    isplitl [H] <;> iassumption

theorem holds_join : (iprop(holds c mr q o k T ∗ holds c mr q (o + k) l T) : sProp 𝕄) ⊢ holds c mr q o (k + l) T :=
  (holds_glue c mr q o k l T T).trans (holds_congr c mr q o (k + l) fun i _ _ => by unfold glue; split <;> rfl)

theorem anyh_split : (anyh c mr o (k + l) : sProp 𝕄) ⊢ iprop(anyh c mr o k ∗ anyh c mr (o + k) l) := by
  unfold anyh
  iintro ⟨%T, H⟩
  ihave H2 := (holds_split c mr fullShare o k l T) $$ H
  icases H2 with ⟨H1, H2⟩
  isplitl [H1]
  · iexists T; iexact H1
  · iexists T; iexact H2

theorem anyh_join : (iprop(anyh c mr o k ∗ anyh c mr (o + k) l) : sProp 𝕄) ⊢ anyh c mr o (k + l) := by
  unfold anyh
  iintro ⟨⟨%T, H⟩, ⟨%T', H'⟩⟩
  iexists glue (o + k) T T'
  iapply (holds_glue c mr fullShare o k l T T')
  isplitl [H] <;> iassumption

theorem holds_any : (holds c mr fullShare o k T : sProp 𝕄) ⊢ anyh c mr o k := by
  unfold anyh; iintro H; iexists T; iexact H

/-- Half of a share out of the whole, and back. -/
theorem holds_share : (holds c mr fullShare o k T : sProp 𝕄) ⊢ iprop(holds c mr fullShare.left o k T ∗ holds c mr fullShare.right o k T) := by
  unfold holds
  iintro ⟨%g, %hg, H⟩
  ihave H2 := (pointsTo_share (PosShare.mem_left_op_right fullShare)).1 $$ H
  icases H2 with ⟨H1, H2⟩
  isplitl [H1]
  · iexists g; isplitr; · ipureintro; exact hg
    iexact H1
  · iexists g; isplitr; · ipureintro; exact hg
    iexact H2

theorem holds_unshare : (iprop(holds c mr fullShare.left o k T ∗ holds c mr fullShare.right o k T) : sProp 𝕄) ⊢ holds c mr fullShare o k T := by
  refine (show (iprop(holds c mr fullShare.left o k T ∗ holds c mr fullShare.right o k T) : sProp 𝕄)
    ⊢ iprop((∃ g : Buf (Elt F) (mr.view.loc (c : Thread nD τ)),
    ⌜∀ i ∈ band n o k, mr.view.read (Elt F) g i = T (i 0).val (i 1).val⌝
      ∗ (mr.view.loc (c : Thread nD τ) ↦[mr.view.setOn (band n o k)]{fullShare.left} g)) ∗ holds c mr fullShare.right o k T) from .rfl).trans ?_
  iintro ⟨⟨%g, %hg, H⟩, H'⟩
  ihave H' := (Entails.of_eq (holds_eq c mr fullShare.right o k T g hg)) $$ H'
  iapply (Entails.of_eq (holds_eq c mr fullShare o k T g hg).symm)
  iapply (pointsTo_share (PosShare.mem_left_op_right fullShare)).2
  isplitl [H] <;> iassumption

/-- Holding a whole memref is owning it. -/
theorem holds_owns : (holds c mr q 0 n T : sProp 𝕄) = owns (c : Thread nD τ) mr q (win T 0) := by
  unfold holds owns
  rw [band_all]
  refine equal_of ?_ ?_
  · iintro ⟨%g, %hg, H⟩
    iexists g
    isplitr
    · ipureintro; funext i; rw [hg i (Finset.mem_univ i)]; unfold win; rw [Nat.zero_add]
    iexact H
  · iintro ⟨%g, %hg, H⟩
    iexists g
    isplitr
    · ipureintro; intro i _; rw [hg]; unfold win; rw [Nat.zero_add]
    iexact H

/-- Holding rows is owning them as a memref. -/
theorem holds_rows {o : Fin 2 → ℕ} (h : Inb n k o) (h1 : o 1 = 0) :
    (holds c mr q (o 0) k T : sProp 𝕄) = owns (c : Thread nD τ) (rows mr o h) q (win T (o 0)) := by
  have hset : (rows mr o h).view.set = mr.view.setOn (band n (o 0) k) := by
    show (mr.view.slice (rc n k o h)).set = _
    rw [View.set_slice, rc_set h h1]; rfl
  unfold holds owns
  rw [hset]
  refine equal_of ?_ ?_
  · iintro ⟨%g, %hg, H⟩
    iexists g
    isplitr
    · ipureintro; funext j
      refine (hg _ (emb_band h h1 j)).trans ?_
      unfold win
      congr 1
      · show o 0 + 1 * (j 0).val = _; omega
      · show o 1 + 1 * (j 1).val = _; omega
    iexact H
  · iintro ⟨%g, %hg, H⟩
    iexists g
    isplitr
    · ipureintro; intro i hi
      obtain ⟨j, rfl⟩ := of_band h h1 hi
      have h2 := congrFun hg j
      refine Eq.trans h2 ?_
      unfold win
      congr 1
      · show _ = o 0 + 1 * (j 0).val; omega
      · show _ = o 1 + 1 * (j 1).val; omega
    iexact H

end Holds

/-! ## Reading and writing rows -/

/-- What is to be run on device `c`, to end with `Q`. -/
abbrev Runs (c : Dev nD) (P : PG F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ P Q

section Rules

variable (c : Dev nD) {n k : ℕ} {e : EltTy} {Q : PUnit → sProp (MT nD τ sig Unit (Elt F) ℕ UU ℕ)}

theorem run_ld (mr : Memref sig .tc .vmem (sh n) e) {o : Fin 2 → ℕ} (h : Inb n k o) (h1 : o 1 = 0) (hk : 0 < k)
    (K : Vec F (sh k) e → PG F) (q : PosShare TreeShare) (o' k' : ℕ) (T : Rows F e) (ho : o' ≤ o 0) (hk' : o 0 + k ≤ o' + k') :
    (holds c mr q o' k' T : sProp 𝕄) ⊢ iprop((holds c mr q o' k' T -∗ Runs c (K (win T (o 0))) Q) -∗ Runs c (ld mr o h hk K) Q) := by
  have hsub : band n (o 0) k ⊆ band n o' k' := by
    intro i hi; rw [mem_band] at hi ⊢; omega
  have hset : (mr.access (rc n k o h)).set = mr.view.setOn (band n (o 0) k) := by
    rw [View.set_slice, rc_set h h1]; rfl
  iintro H Hk
  unfold ld
  ihave H := (show (holds c mr q o' k' T : sProp 𝕄) ⊢ iprop(∃ g : Buf (Elt F) (mr.view.loc (c : Thread nD τ)),
    ⌜∀ i ∈ band n o' k', mr.view.read (Elt F) g i = T (i 0).val (i 1).val⌝
      ∗ (mr.view.loc (c : Thread nD τ) ↦[mr.view.setOn (band n o' k')]{q} g)) from .rfl) $$ H
  icases H with ⟨%g, %hg, H⟩
  iapply (wp_load_rect 𝒱₀ (c : Thread nD τ) none Set.univ (m := mr) (r := rc n k o h)
    (by rw [hset]; exact Finset.map_subset_map.mpr hsub)) $$ H
  iintro H
  have hv : (mr.access (rc n k o h)).read (Elt F) g = win T (o 0) := by
    funext j
    refine (hg _ (hsub (emb_band h h1 j))).trans ?_
    unfold win
    congr 1
    · show o 0 + 1 * (j 0).val = _; omega
    · show o 1 + 1 * (j 1).val = _; omega
  rw [hv]
  iapply Hk
  unfold holds
  iexists g
  isplitr; · ipureintro; exact hg
  iexact H

/-- Writing exactly the rows held. -/
theorem run_st (mr : Memref sig .tc .vmem (sh n) e) {o : Fin 2 → ℕ} (h : Inb n k o) (h1 : o 1 = 0) (v : Vec F (sh k) e)
    (hx : (mr.access (rc n k o h)).Stores Finset.univ) (hm : (Finset.univ : Finset (rc n k o h).shape.Idx) = Finset.univ ∨ ∀ a, (rc n k o h).stride a = 1)
    (K : PG F) (T' : Rows F e) (hv : v = win T' (o 0)) :
    (anyh c mr (o 0) k : sProp 𝕄) ⊢ iprop((holds c mr fullShare (o 0) k T' -∗ Runs c K Q)
      -∗ Runs c (.op (.store mr (rc n k o h) v Finset.univ hx hm) fun _ => K) Q) := by
  have hset : (mr.access (rc n k o h)).setOn Finset.univ = mr.view.setOn (band n (o 0) k) := by
    rw [View.setOn_univ, View.set_slice, rc_set h h1]; rfl
  unfold anyh holds
  iintro ⟨%T, %g, %hg, H⟩ Hk
  iapply (wp_store 𝒱₀ (c : Thread nD τ) none Set.univ (m := mr) (r := rc n k o h) (Mk := Finset.univ)
    (by rw [hset])) $$ H
  iintro H
  iapply Hk
  iexists _
  isplitr
  rotate_left
  · iexact H
  ipureintro
  intro i hi
  obtain ⟨j, rfl⟩ := of_band h h1 hi
  have h2 := congrFun ((mr.access (rc n k o h)).read_write_univ (Val := Elt F) g v) j
  refine Eq.trans h2 ?_
  rw [hv]
  unfold win
  congr 1
  · show _ = o 0 + 1 * (j 0).val; omega
  · show _ = o 1 + 1 * (j 1).val; omega

theorem run_stF (mr : Memref sig .tc .vmem (sh n) .f32) {o : Fin 2 → ℕ} (h : Inb n k o) (h1 : o 1 = 0) (hk : 0 < k)
    (v : Vec F (sh k) .f32) (K : PG F) (T' : Rows F .f32) (hv : v = win T' (o 0)) :
    (anyh c mr (o 0) k : sProp 𝕄) ⊢ iprop((holds c mr fullShare (o 0) k T' -∗ Runs c K Q) -∗ Runs c (stF mr o h hk v K) Q) :=
  run_st c mr h h1 v _ _ K T' hv

theorem run_stH (mr : Memref sig .tc .vmem (sh n) .bf16) (hw : mr.IsWhole) {o : Fin 2 → ℕ} (h : Inb n k o) (h1 : o 1 = 0) (hk : 0 < k)
    (ho : 2 ∣ o 0) (h2 : 2 ∣ k) (v : Vec F (sh k) .bf16) (K : PG F) (T' : Rows F .bf16) (hv : v = win T' (o 0)) :
    (anyh c mr (o 0) k : sProp 𝕄) ⊢ iprop((holds c mr fullShare (o 0) k T' -∗ Runs c K Q) -∗ Runs c (stH mr hw o h hk ho h2 v K) Q) :=
  run_st c mr h h1 v _ _ K T' hv

end Rules

end Cert.AllReduce

end
-- ==== Proof.Values.lean ====
/-
# What is computed where

The contents of every buffer as functions of the part, the device, the row and the column. Rows of a part are counted
from the part's first row. `S1`, `S2`, `S3` are the sums after each of the first three exchanges, `G` the
activation of the whole sum, `tg` its narrowed copy as every device comes to hold it, `yv` what a device writes out.
-/
module

public import proofs.«01_k».proof.Proof.Hold
public import Idealize.ShloMosaic.Lib.Pipeline.Value

@[expose] public section

noncomputable section

namespace Cert.AllReduce

open Cert.KernelIdeal Cert.KernelIdeal.Gen
open Idealize.ShloMosaic Idealize.ShloMosaic.TcCoe
open Idealize.SL Idealize.SL.RA

variable {F : FTy → Type} [FloatOps F]

/-! ## Scalars -/

/-- The one index of a vector of one row, at column 0. -/
def ix1 : (sh 1).Idx := fun a => ⟨0, by fin_cases a <;> decide⟩

def tr1 (a : Elt F .f32) : Elt F .bf16 := tr (k := 1) (fun _ => a) ix1
def ex1 (a : Elt F .bf16) : Elt F .f32 := ex (k := 1) (fun _ => a) ix1
def ad1 (a : Elt F .f32) (b : Elt F .bf16) : Elt F .f32 := ad (k := 1) (fun _ => a) (fun _ => b) ix1
def fv1 (a : Elt F .f32) : Elt F .f32 := fv (k := 1) (fun _ => a) ix1

theorem tr_apply {k : ℕ} (v : Vec F (sh k) .f32) (j : (sh k).Idx) : tr v j = tr1 (v j) := rfl
theorem ex_apply {k : ℕ} (v : Vec F (sh k) .bf16) (j : (sh k).Idx) : ex v j = ex1 (v j) := rfl
theorem ad_apply {k : ℕ} (v : Vec F (sh k) .f32) (r : Vec F (sh k) .bf16) (j : (sh k).Idx) : ad v r j = ad1 (v j) (r j) := rfl
theorem fv_apply {k : ℕ} (v : Vec F (sh k) .f32) (j : (sh k).Idx) : fv v j = fv1 (v j) := rfl
theorem sc_eq {k : ℕ} {e : FTy} (v : FVec F (sh k) e) : sc v = v := shapeCast_self v _

/-! ## Neighbours -/

theorem nb_nb : ∀ j d, nb j (nb j d) = d := by decide +kernel
theorem nb_ne : ∀ j d, nb j d ≠ d := by decide +kernel

/-- How the parities change across each exchange. -/
theorem nb_b : ∀ p d,
    b1 p (nb (j1 p) d) = 1 - b1 p d ∧
    b1 p (nb (j2 p) d) = b1 p d ∧ b2 p (nb (j2 p) d) = 1 - b2 p d ∧
    b1 p (nb (j3 p) d) = b1 p d ∧ b2 p (nb (j3 p) d) = b2 p d ∧ b3 p (nb (j3 p) d) = 1 - b3 p d := by
  decide +kernel

/-- The device whose parities are the digits of `e`. -/
def devOf (p : Fin 12) (e : ℕ) : Dev nD :=
  ((List.finRange nD).find? fun d => 4 * b1 p d + 2 * b2 p d + b3 p d == e).getD 0

theorem devOf_b : ∀ p d, devOf p (4 * b1 p d + 2 * b2 p d + b3 p d) = d := by decide +kernel

theorem b_devOf : ∀ (p : Fin 12) (e : Fin 8), 4 * b1 p (devOf p e.val) + 2 * b2 p (devOf p e.val) + b3 p (devOf p e.val) = e.val := by
  decide +kernel

/-- The device that finishes row `r` of part `p`. -/
def own (p : Fin 12) (r : ℕ) : Dev nD := devOf p (r / U p)

/-- A device finishes the rows of its eighth. -/
theorem own_of {p : Fin 12} {d : Dev nD} {r : ℕ} (h : (4 * b1 p d + 2 * b2 p d + b3 p d) * U p ≤ r)
    (h' : r < (4 * b1 p d + 2 * b2 p d + b3 p d) * U p + U p) : own p r = d := by
  unfold own
  rw [Nat.div_eq_of_lt_le h (by rw [Nat.add_mul, Nat.one_mul]; exact h'), devOf_b]

/-- No other rows are its own. -/
theorem own_rows {p : Fin 12} {d : Dev nD} {r : ℕ} (hr : r < 8 * U p) (h : own p r = d) :
    (4 * b1 p d + 2 * b2 p d + b3 p d) * U p ≤ r ∧ r < (4 * b1 p d + 2 * b2 p d + b3 p d) * U p + U p := by
  have hU := pos1 p
  have he : r / U p < 8 := Nat.div_lt_of_lt_mul (by rw [Nat.mul_comm]; exact hr)
  have hb := b_devOf p ⟨r / U p, he⟩
  unfold own at h
  simp only [h] at hb
  rw [hb]
  have h1 := Nat.div_mul_le_self r (U p)
  have h2 := Nat.lt_div_mul_add (a := r) hU
  exact ⟨h1, h2⟩

/-! ## Contents -/

section Contents
variable (X : Dev nD → Rows F .f32) (p : Fin 12) (c : Dev nD)

/-- Part `p` of the input. -/
def xw : Rows F .f32 := fun r s => X c (offs p + r) s
def t0 : Rows F .bf16 := fun r s => tr1 (xw X p c r s)
/-- The sum of two devices. -/
def S1 : Rows F .f32 := fun r s => ad1 (xw X p c r s) (t0 X p (nb (j1 p) c) r s)
def t1 : Rows F .bf16 := fun r s => tr1 (S1 X p c r s)
/-- The sum of four. -/
def S2 : Rows F .f32 := fun r s => ad1 (S1 X p c r s) (t1 X p (nb (j2 p) c) r s)
def t2 : Rows F .bf16 := fun r s => tr1 (S2 X p c r s)
/-- The sum of all eight. -/
def S3 : Rows F .f32 := fun r s => ad1 (S2 X p c r s) (t2 X p (nb (j3 p) c) r s)
/-- The activation of the sum. -/
def G : Rows F .f32 := fun r s => fv1 (S3 X p c r s)
/-- Its narrowed copy, made by the device that finishes the row. -/
def tg : Rows F .bf16 := fun r s => tr1 (G X p (own p r) r s)
/-- What a device writes out: its own eighth as computed, all else from the narrowed copies. -/
def yv : Rows F .f32 := fun r s => if own p r = c then G X p c r s else ex1 (tg X p r s)
/-- The same, by rows of the result array. -/
def yo : Rows F .f32 := fun r s => yv X p c (r - offs p) s
/-- The gathered half: rows counted from the half's first. -/
def gT : Rows F .bf16 := fun r s => tg X p (b1 p c * (4 * U p) + r) s

end Contents

/-! ## The exchanges -/

section Exchanges
variable (p : Fin 12)

/-- The rows of the buffers exchange `i` works in. -/
def sn : Fin 6 → ℕ
  | 0 => 4 * U p | 1 => 2 * U p | 2 => U p | 3 => 4 * U p | 4 => 4 * U p | 5 => 4 * U p

/-- The rows it moves. -/
def len : Fin 6 → ℕ
  | 0 => 4 * U p | 1 => 2 * U p | 2 => U p | 3 => U p | 4 => 2 * U p | 5 => 4 * U p

/-- The buffer it sends from. -/
def srcM : (i : Fin 6) → Memref sig .tc .vmem (sh (sn p i)) .bf16
  | 0 => s1 p | 1 => s2 p | 2 => s3 p | 3 => gv p | 4 => gv p | 5 => gv p

/-- The buffer it lands in. -/
def dstM : (i : Fin 6) → Memref sig .tc .vmem (sh (sn p i)) .bf16
  | 0 => r1 p | 1 => r2 p | 2 => r3 p | 3 => gv p | 4 => gv p | 5 => g2 p

/-- The first row it moves, by the sender. -/
def so (c : Dev nD) : Fin 6 → ℕ
  | 0 => 0 | 1 => 0 | 2 => 0 | 3 => (wI p c).toNat | 4 => (wE p c).toNat | 5 => 0

/-- The share of the source that is lent. -/
def sq : Fin 6 → PosShare TreeShare
  | 0 => fullShare | 1 => fullShare | 2 => fullShare | 3 => fullShare | 4 => fullShare.left | 5 => fullShare.left

/-- What is sent. -/
def srcT (X : Dev nD → Rows F .f32) (c : Dev nD) : Fin 6 → Rows F .bf16
  | 0 => fun r s => t0 X p c ((wA p c).toNat + r) s
  | 1 => fun r s => t1 X p c ((wB p c).toNat + r) s
  | 2 => fun r s => t2 X p c ((wDd p c).toNat + (wF p c).toNat + r) s
  | 3 => gT X p c
  | 4 => gT X p c
  | 5 => gT X p c

/-- The units a copy of it signals. -/
def amt (i : Fin 6) : ℕ := (dstM p i).view.ref.dmaCredit (sh (len p i)) .bf16

/-- The device met in exchange `i`. -/
abbrev peer (i : Fin 6) (c : Dev nD) : Dev nD := nb (dir p i) c

/-- The first row, and the number of rows, of the four copies into the result. -/
def po (c : Dev nD) : Fin 4 → ℕ
  | 0 => (wH p c).toNat | 1 => (wK p c).toNat | 2 => (wB p c).toNat | 3 => (wA p c).toNat
def pl : Fin 4 → ℕ
  | 0 => U p | 1 => U p | 2 => 2 * U p | 3 => 4 * U p

/-- The units the copy of the input, and the copies into the result, signal. -/
def amtX : ℕ := (xv p).view.ref.dmaCredit (sh (8 * U p)) .f32
def amtO (k : Fin 4) : ℕ := yout.view.ref.dmaCredit (sh (pl p k)) .f32

end Exchanges

end Cert.AllReduce

end
-- ==== Proof.Sched.lean ====
/-
# The protocol

Every semaphore of a device is a cell with one round. The barrier cell has three duties, one for each neighbour: a
neighbour's signal hands over the buffers on that neighbour into which this device will copy. A send cell's duty
hands the source back; a receive cell's duty hands over the rows that landed, at their contents; the cells of the local
copies hand over both sides.
-/
module

public import proofs.«01_k».proof.Proof.Values

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The kernel's own semaphores: send, receive, input, output. -/
abbrev Own : Type := (Fin 12 × Fin 6) ⊕ (Fin 12 × Fin 6) ⊕ Fin 12 ⊕ (Fin 12 × Fin 4)
/-- All of them: the barrier too. -/
abbrev Cl : Type := Unit ⊕ Own

abbrev kB : Cl := .inl ()
abbrev kS (p : Fin 12) (i : Fin 6) : Cl := .inr (.inl (p, i))
abbrev kR (p : Fin 12) (i : Fin 6) : Cl := .inr (.inr (.inl (p, i)))
abbrev kX (p : Fin 12) : Cl := .inr (.inr (.inr (.inl p)))
abbrev kO (p : Fin 12) (k : Fin 4) : Cl := .inr (.inr (.inr (.inr (p, k))))

def osem : Own → SemLoc sig
  | .inl (p, i) => .dma (sndS p i)
  | .inr (.inl (p, i)) => .dma (rcvS p i)
  | .inr (.inr (.inl p)) => .dma (xS p)
  | .inr (.inr (.inr (p, k))) => .dma (oS p k)

def semOf : Cl → SemLoc sig
  | .inl _ => .reg barS
  | .inr x => osem x

/-- The cell `k` of device `c`. -/
abbrev cell (c : Dev nD) (k : Cl) : GSem nD τ sig := ((c : Thread nD τ), semOf k)

/-- Which cell a DMA semaphore is, by its number. -/
def decN (q : ℕ) : Cl :=
  if q < 72 then kS ⟨q / 6 % 12, Nat.mod_lt _ (by decide)⟩ ⟨q % 6, Nat.mod_lt _ (by decide)⟩
  else if q < 144 then kR ⟨(q - 72) / 6 % 12, Nat.mod_lt _ (by decide)⟩ ⟨(q - 72) % 6, Nat.mod_lt _ (by decide)⟩
  else if q < 156 then kX ⟨(q - 144) % 12, Nat.mod_lt _ (by decide)⟩
  else kO ⟨(q - 156) / 4 % 12, Nat.mod_lt _ (by decide)⟩ ⟨(q - 156) % 4, Nat.mod_lt _ (by decide)⟩

def dec : SemLoc sig → Cl
  | .reg _ => kB
  | .dma q => decN q.val

theorem decN_snd : ∀ (p : Fin 12) (i : Fin 6), decN (6 * p.val + i.val) = kS p i := fun p i =>
  of_decide_eq_true ((show ∀ (p : Fin 12) (i : Fin 6), decide (decN (6 * p.val + i.val) = kS p i) = true by decide +kernel) p i)
theorem decN_rcv : ∀ (p : Fin 12) (i : Fin 6), decN (72 + (6 * p.val + i.val)) = kR p i := fun p i =>
  of_decide_eq_true ((show ∀ (p : Fin 12) (i : Fin 6), decide (decN (72 + (6 * p.val + i.val)) = kR p i) = true by decide +kernel) p i)
theorem decN_x : ∀ (p : Fin 12), decN (144 + p.val) = kX p := fun p =>
  of_decide_eq_true ((show ∀ (p : Fin 12), decide (decN (144 + p.val) = kX p) = true by decide +kernel) p)
theorem decN_o : ∀ (p : Fin 12) (k : Fin 4), decN (156 + (4 * p.val + k.val)) = kO p k := fun p k =>
  of_decide_eq_true ((show ∀ (p : Fin 12) (k : Fin 4), decide (decN (156 + (4 * p.val + k.val)) = kO p k) = true by decide +kernel) p k)

theorem dec_semOf (k : Cl) : dec (semOf k) = k := by
  rcases k with ⟨⟩ | ⟨p, i⟩ | ⟨p, i⟩ | p | ⟨p, k⟩
  · rfl
  · exact decN_snd p i
  · exact decN_rcv p i
  · exact decN_x p
  · exact decN_o p k

theorem semOf_inj : Function.Injective semOf := fun a b h => by rw [← dec_semOf a, h, dec_semOf]

theorem cell_inj : Function.Injective fun x : Dev nD × Cl => cell x.1 x.2 := by
  rintro ⟨c, k⟩ ⟨c', k'⟩ h
  have h1 : c = c' := by have := congrArg (fun g : GSem nD τ sig => g.1.1) h; exact this
  have h2 : k = k' := semOf_inj (congrArg Prod.snd h)
  rw [h1, h2]

/-! ## What is handed over -/

/-- The rows on the peer into which device `c` will copy in exchange `i`. -/
def dest (p : Fin 12) (i : Fin 6) (c : Dev nD) : sProp 𝕄 := anyh (peer p i c) (dstM p i) (so p c i) (len p i)

/-- What the neighbour in direction `j` of `c` hands it at the barrier. -/
def barPay (j : Fin 3) (c : Dev nD) : sProp 𝕄 :=
  bigSep (Finset.univ.filter fun x : Fin 12 × Fin 6 => dir x.1 x.2 = j) fun x => dest x.1 x.2 c

variable (X : Dev nD → Rows F .f32)

/-- The source of an exchange, as lent. -/
def lent (p : Fin 12) (i : Fin 6) (c : Dev nD) : sProp 𝕄 := holds c (srcM p i) (sq i) (so p c i) (len p i) (srcT p X c i)
/-- What an exchange lands on `c`. -/
def landed (p : Fin 12) (i : Fin 6) (c : Dev nD) : sProp 𝕄 :=
  holds c (dstM p i) fullShare (so p (peer p i c) i) (len p i) (srcT p X (peer p i c) i)
/-- Part `p` of the input, in place and copied. -/
def inPart (p : Fin 12) (c : Dev nD) : sProp 𝕄 := holds (n := 4096) c xin fullShare (offs p) (8 * U p) (X c)
def gotX (p : Fin 12) (c : Dev nD) : sProp 𝕄 := iprop(holds c (xv p) fullShare 0 (8 * U p) (xw X p c) ∗ inPart X p c)
/-- A piece of the result, assembled and copied out. -/
def ovPart (p : Fin 12) (k : Fin 4) (c : Dev nD) : sProp 𝕄 := holds c (ov p) fullShare (po p c k) (pl p k) (yv X p c)
def outPart (p : Fin 12) (k : Fin 4) (c : Dev nD) : sProp 𝕄 :=
  holds (n := 4096) c yout fullShare (offs p + po p c k) (pl p k) (yo X p c)

/-- What a cell's duty hands its owner. -/
def pay (c : Dev nD) (j : Fin 3) : Cl → sProp 𝕄
  | .inl _ => barPay j c
  | .inr (.inl (p, i)) => lent X p i c
  | .inr (.inr (.inl (p, i))) => landed X p i c
  | .inr (.inr (.inr (.inl p))) => gotX X p c
  | .inr (.inr (.inr (.inr (p, k)))) => iprop(ovPart X p k c ∗ outPart X p k c)

/-- The units a cell's duty brings. -/
def units : Cl → ℕ
  | .inl _ => 1
  | .inr (.inl (p, i)) => amt p i
  | .inr (.inr (.inl (p, i))) => amt p i
  | .inr (.inr (.inr (.inl p))) => amtX p
  | .inr (.inr (.inr (.inr (p, k)))) => amtO p k

theorem len_pos : ∀ p i, 0 < len p i := by decide +kernel
theorem pl_pos : ∀ p k, 0 < pl p k := by decide +kernel
theorem X_pos : ∀ p, 0 < 8 * U p := by decide +kernel

theorem units_pos (k : Cl) : 0 < units k := by
  rcases k with ⟨⟩ | ⟨p, i⟩ | ⟨p, i⟩ | p | ⟨p, k⟩
  · exact Nat.one_pos
  · exact sig.dmaCredit_pos _ _ _ _ _ (numel_pos (len_pos p i))
  · exact sig.dmaCredit_pos _ _ _ _ _ (numel_pos (len_pos p i))
  · exact sig.dmaCredit_pos _ _ _ _ _ (numel_pos (X_pos p))
  · exact sig.dmaCredit_pos _ _ _ _ _ (numel_pos (pl_pos p k))

/-- The duties of a cell. -/
def dutiesOf : Cl → Finset (Fin 3)
  | .inl _ => Finset.univ
  | .inr _ => {0}

/-- The protocol. -/
def proto : Rounds.Schedule (GSem nD τ sig) (Fin 3) 𝕄 where
  duties g r := if r = 0 ∧ g.1.2 = .tc then dutiesOf (dec g.2) else ∅
  unitless _ := False
  amount g _ _ := units (dec g.2)
  payload g _ j := pay X g.1.1 j (dec g.2)
  amount_pos g _ _ _ := units_pos _

instance pay_storable (c : Dev nD) (j : Fin 3) (k : Cl) : BI.Storable (upEmb : UEmb _ 𝕄) (pay X c j k) := by
  rcases k with ⟨⟩ | ⟨p, i⟩ | ⟨p, i⟩ | p | ⟨p, k⟩
  · show BI.Storable _ (barPay j c); unfold barPay dest; infer_instance
  · show BI.Storable _ (lent X p i c); unfold lent; infer_instance
  · show BI.Storable _ (landed X p i c); unfold landed; infer_instance
  · show BI.Storable _ (gotX X p c); unfold gotX inPart; infer_instance
  · show BI.Storable _ iprop(ovPart X p k c ∗ outPart X p k c); unfold ovPart outPart; infer_instance

instance proto_storable (g : GSem nD τ sig) (r : ℕ) (j : Fin 3) : BI.Storable (upEmb : UEmb _ 𝕄) ((proto X).payload g r j) :=
  pay_storable X _ _ _

section Facts
variable (c : Dev nD) (k : Cl)

theorem duties_0 : (proto X).duties (cell c k) 0 = dutiesOf k := by
  dsimp only [proto]; rw [if_pos ⟨rfl, rfl⟩, dec_semOf]
theorem duties_later (g : GSem nD τ sig) : ∀ r, 1 ≤ r → (proto X).duties g r = ∅ :=
  fun r hr => by dsimp only [proto]; exact if_neg fun h => by omega
theorem amount_0 (j : Fin 3) : (proto X).amount (cell c k) 0 j = units k := by
  dsimp only [proto]; rw [dec_semOf]
theorem payload_0 (j : Fin 3) : (proto X).payload (cell c k) 0 j = pay X c j k := by
  dsimp only [proto]; rw [dec_semOf]
theorem expect_own (x : Own) : (proto X).expect (cell c (.inr x)) 0 = units (.inr x) := by
  unfold Schedule.expect Schedule.amountOf
  rw [duties_0, show dutiesOf (.inr x) = {0} from rfl, Finset.sum_singleton, amount_0]
theorem expect_bar : (proto X).expect (cell c kB) 0 = 3 := by
  unfold Schedule.expect Schedule.amountOf
  rw [duties_0, show dutiesOf kB = Finset.univ from rfl, Finset.sum_congr rfl fun j _ => amount_0 X c kB j]
  rfl
theorem rest_own (x : Own) : bigSep ((proto X).duties (cell c (.inr x)) 0 \ ∅) (fun j => (proto X).payload (cell c (.inr x)) 0 j) = pay X c 0 (.inr x) := by
  rw [Finset.sdiff_empty, duties_0, show dutiesOf (.inr x) = {0} from rfl, bigSep_singleton, payload_0]
theorem rest_bar : bigSep ((proto X).duties (cell c kB) 0 \ ∅) (fun j => (proto X).payload (cell c kB) 0 j)
    = bigSep Finset.univ fun j => barPay j c := by
  rw [Finset.sdiff_empty, duties_0, show dutiesOf kB = Finset.univ from rfl]
  exact bigSep_congr fun j _ => payload_0 X c kB j

end Facts

/-! ## What is owed; the levels -/

/-- The units device `c` owes for the exchanges in `S`. -/
def debt (S : Finset (Fin 12 × Fin 6)) (c : Dev nD) : CellTallies nD τ sig Unit :=
  ∑ x ∈ S, tallyAt (cell (peer x.1 x.2 c) (kR x.1 x.2)) () (amt x.1 x.2)

/-- The units it owes its neighbours' barriers in the directions of `J`. -/
def barDebt (J : Finset (Fin 3)) (c : Dev nD) : CellTallies nD τ sig Unit := ∑ j ∈ J, tallyAt (cell (nb j c) kB) () 1

def O₀ (c : Dev nD) : CellTallies nD τ sig Unit := debt Finset.univ c + barDebt Finset.univ c

def L (g : GSem nD τ sig) : Finset Unit := if g.1.2 = .tc then {()} else ∅

/-- Levels: local waits lowest, then the barrier, then the exchanges in order. -/
def lvK : Cl → ℕ
  | .inl _ => 1
  | .inr (.inr (.inl (_, i))) => 2 + i.val
  | _ => 0
def lv (g : GSem nD τ sig) (_ : Unit) : ℕ := lvK (dec g.2)

end Cert.AllReduce

end
-- ==== Proof.Copies.lean ====
/-
# Copies, sends, waits

What the kernel's transfers and waits do, as rules over the protocol of `Sched`. `com` is what every device knows for
good; a stage of an exchange holds `tkt`, the tokens and rounds of its two cells.
-/
module

public import proofs.«01_k».proof.Proof.Sched

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F .f32) (K : Dev nD × Cl → ℕ)

instance : DecidableEq Own := inferInstance
instance : DecidableEq Cl := inferInstance
instance : DecidableEq (Dev nD × Cl) := inferInstance

/-- Every cell's invariant, every cell's first round reached, the levels. -/
def com : sProp 𝕄 :=
  iprop((bigSep Finset.univ fun x : Dev nD × Cl => cellInv ER (proto X) (K x) (cell x.1 x.2))
    ∗ (bigSep Finset.univ fun x : Dev nD × Cl => reached ER (cell x.1 x.2) 0) ∗ levAts L lv)

instance com_persistent : BI.Persistent (com X K : sProp 𝕄) := by unfold com; infer_instance

theorem com_inv (c : Dev nD) (k : Cl) : com X K ⊢ (cellInv ER (proto X) (K (c, k)) (cell c k) : sProp 𝕄) := by
  exact sep_elim_left.trans (bigSep_elim (Finset.mem_univ (c, k)))

theorem com_reached (c : Dev nD) (k : Cl) : com X K ⊢ (reached ER (cell c k) 0 : sProp 𝕄) := by
  exact sep_elim_right.trans (sep_elim_left.trans (bigSep_elim (Finset.mem_univ (c, k))))

theorem com_lev : com X K ⊢ (levAts L lv : sProp 𝕄) := by
  unfold com
  iintro ⟨-, -, H⟩
  iexact H

/-! ## What is owed -/

theorem debt_pos {S : Finset (Fin 12 × Fin 6)} {c : Dev nD} {g : GSem nD τ sig} {u : Unit} (h : 0 < debt S c g u) :
    ∃ x ∈ S, g = cell (peer x.1 x.2 c) (kR x.1 x.2) := by
  unfold debt at h
  rw [Finset.sum_apply, Finsupp.finset_sum_apply] at h
  obtain ⟨x, hx, hp⟩ := Finset.exists_ne_zero_of_sum_ne_zero (Nat.pos_iff_ne_zero.mp h)
  refine ⟨x, hx, ?_⟩
  rw [tallyAt_apply] at hp
  by_contra hg
  exact hp (if_neg fun h => hg h.1)

theorem L_cell (c : Dev nD) (k : Cl) : () ∈ L (cell c k) := by
  unfold L; rw [if_pos rfl]; exact Finset.mem_singleton_self _

theorem lv_cell (c : Dev nD) (k : Cl) : lv (cell c k) () = lvK k := by
  unfold lv; rw [dec_semOf]

/-- A wait on a cell below everything still owed. -/
theorem may_wait (c : Dev nD) (k : Cl) (S : Finset (Fin 12 × Fin 6)) (hS : ∀ x ∈ S, lvK k < 2 + x.2.val) :
    (levAts L lv : sProp 𝕄) ⊢ MayWait (c : Thread nD τ) (semOf k) () (debt S c) :=
  MayOwe.of_cut (L := L) (lev := lv) (lvK k)
    (fun p hp => by rw [Finset.mem_singleton.mp hp]; exact L_cell c k)
    (fun g u hg => by obtain ⟨x, _, rfl⟩ := debt_pos hg; exact L_cell _ _)
    (fun p hp => by rw [Finset.mem_singleton.mp hp]; exact le_of_eq (lv_cell c k))
    (fun g u hg => by obtain ⟨x, hx, rfl⟩ := debt_pos hg; rw [lv_cell]; exact hS x hx)

/-- What is owed for the exchanges of `S`, after some waits. -/
def owing (S : Finset (Fin 12 × Fin 6)) (c : Dev nD) : sProp 𝕄 := iprop(∃ W, owes (c : Thread nD τ) (debt S c) W)

/-! ## A transfer within the device -/

section Rules

variable (c : Dev nD) {Q : PUnit → sProp (MT nD τ sig Unit (Elt F) ℕ UU ℕ)}

/-- The tokens of one of the device's own copies: before it, in flight, after. -/
def lcl (x : Own) : ℕ → sProp 𝕄
  | 0 => iprop(dutyTok ER (cell c (.inr x)) 0 (0 : Fin 3) ∗ atPos ER (cell c (.inr x)) 0 ∅ 0)
  | 1 => iprop(cred (tallyAt (cell c (.inr x)) () (units (.inr x))) ∗ atPos ER (cell c (.inr x)) 0 ∅ 0)
  | _ => atPos ER (cell c (.inr x)) 1 ∅ 0

theorem run_copy (x : Own) {m : ℕ} {e : EltTy} {sp sp' : Space} (src : Memref sig .tc sp (sh m) e) (dst : Memref sig .tc sp' (sh m) e)
    {hs : src.view.WordExact} {hd : dst.view.WordExact} {ht : DmaTarget.Typed (nD := nD) (τ := τ) (p := (.tc : Proc τ)) sp (osem x) (.here dst)} (Kt : PG F)
    (q : PosShare TreeShare) (v : (sh m).Idx → Elt F e)
    (hN : dst.view.amount (osem x) = units (.inr x))
    (hpay : iprop(owns (c : Thread nD τ) src q v ∗ owns (c : Thread nD τ) dst fullShare v) ⊢ pay X c 0 (.inr x)) :
    iprop(com X K ∗ owns (c : Thread nD τ) src q v ∗ (∃ v', owns (c : Thread nD τ) dst fullShare v') ∗ lcl c x 0)
      ⊢ iprop((lcl c x 1 -∗ Runs c Kt Q) -∗ Runs c (.op (.enqueueDma src (.here dst) (osem x) hs hd ht) fun _ => Kt) Q) := by
  unfold owns
  simp only [lcl]
  iintro ⟨#HC, ⟨%fs, %hfs, Hs⟩, ⟨%v', %fd, %hfd, Hd⟩, Htok, Hat⟩ Hk
  have hp : iprop((dst.view.loc (c : Thread nD τ) ↦[dst.view.set]{fullShare} (dst.view.write (Elt F) fd (src.view.read (Elt F) fs) Finset.univ))
      ∗ (src.view.loc (c : Thread nD τ) ↦[src.view.set]{q} fs)) ⊢ ((proto X).payload (cell c (.inr x)) 0 0 : sProp 𝕄) := by
    refine BI.Entails.trans ?_ (hpay.trans (Entails.of_eq (payload_0 X c (.inr x) 0).symm))
    show _ ⊢ iprop(owns (c : Thread nD τ) src q v ∗ owns (c : Thread nD τ) dst fullShare v)
    unfold owns
    iintro ⟨Hd, Hs⟩
    isplitl [Hs]
    · iexists fs; isplitr; · ipureintro; exact hfs
      iexact Hs
    · iexists (dst.view.write (Elt F) fd (src.view.read (Elt F) fs) Finset.univ)
      isplitr; · ipureintro; rw [View.read_write_univ, hfs]
      iexact Hd
  iapply (Rounds.wp_copy_pointsTo 𝒱₀ ER (proto X) (c : Thread nD τ) none (κ := K (c, .inr x)) (q := q) (fs := fs) (fd := fd) (r := 0) (d := (0 : Fin 3))
    (by rw [show (((c : Thread nD τ), osem x) : GSem nD τ sig) = cell c (.inr x) from rfl, duties_0]; exact Finset.mem_singleton_self _)
    () (units (.inr x)) hN (amount_0 X c (.inr x) 0)
    hp) $$ [Hs Hd Htok]
  · isplitr; · iapply (com_inv X K c (.inr x)); iexact HC
    isplitl [Hs]; · iexact Hs
    isplitl [Hd]; · iexact Hd
    isplitl [Htok]; · iexact Htok
    iapply (com_reached X K c (.inr x)); iexact HC
  iintro Hc
  iapply Hk
  isplitl [Hc]; · iexact Hc
  iexact Hat

/-- A wait on one of the device's own cells. -/
theorem run_wait (x : Own) {m m' : ℕ} {e e' : EltTy} {sp sp' : Space} (sem : DmaSem sig) (hsem : osem x = .dma sem)
    (src : Memref sig .tc sp (sh m) e) (dst : Memref sig .tc sp' (sh m') e')
    {hs : src.view.WordExact} {hd : dst.view.WordExact} (Kt : PG F) (S : Finset (Fin 12 × Fin 6))
    (hS : ∀ y ∈ S, lvK (.inr x) < 2 + y.2.val) (hN : dst.view.dmaCredit = units (.inr x)) :
    iprop(com X K ∗ owing S c ∗ cred (tallyAt (cell c (.inr x)) () (units (.inr x))) ∗ atPos ER (cell c (.inr x)) 0 ∅ 0)
      ⊢ iprop((iprop(owing S c ∗ atPos ER (cell c (.inr x)) 1 ∅ 0 ∗ pay X c 0 (.inr x)) -∗ Runs c Kt Q)
        -∗ Runs c (.op (.waitDma2 sem src dst hs hd) fun _ => Kt) Q) := by
  have hcell : (((c : Thread nD τ), SemLoc.dma sem) : GSem nD τ sig) = cell c (.inr x) := by rw [← hsem]; rfl
  unfold owing
  iintro ⟨#HC, ⟨%W, HO⟩, Hc, Hat⟩ Hk
  iapply (Rounds.wp_wait_rest_token 𝒱₀ ER (proto X) (c : Thread nD τ) none (κ := K (c, .inr x))
      (wpE_waitDma2_eq 𝒱₀ (c : Thread nD τ) none Set.univ) (Set.mem_univ _) () (O := debt S c) (W := W) (R := 0) (m := 0) (T := ∅)
      (by rw [Nat.zero_add, hcell, expect_own, hN])) $$ [HO Hc Hat]
  · rw [hcell, hN]
    isplitr; · iapply (com_inv X K c (.inr x)); iexact HC
    isplitl [Hc]; · iexact Hc
    isplitl [HO]; · iexact HO
    isplitr
    · rw [← hsem]; iapply (may_wait c (.inr x) S hS); iapply (com_lev X K); iexact HC
    iexact Hat
  rw [hcell]
  iintro ⟨HO, Hat, -, Hpay⟩
  ihave Hp := (Entails.of_eq (rest_own X c x)) $$ Hpay
  iapply Hk
  isplitl [HO]; · iexists _; iexact HO
  isplitl [Hat]; · iexact Hat
  iexact Hp

/-! ## An exchange -/

/-- The tokens of an exchange: before it, in flight, after. -/
def tkt (p : Fin 12) (i : Fin 6) : ℕ → sProp 𝕄
  | 0 => iprop(dutyTok ER (cell c (kS p i)) 0 (0 : Fin 3) ∗ dutyTok ER (cell (peer p i c) (kR p i)) 0 (0 : Fin 3)
      ∗ atPos ER (cell c (kS p i)) 0 ∅ 0 ∗ atPos ER (cell c (kR p i)) 0 ∅ 0 ∗ cred (tallyAt (cell c (kR p i)) () (amt p i)))
  | 1 => iprop(cred (tallyAt (cell c (kS p i)) () (amt p i)) ∗ atPos ER (cell c (kS p i)) 0 ∅ 0
      ∗ cred (tallyAt (cell c (kR p i)) () (amt p i)) ∗ atPos ER (cell c (kR p i)) 0 ∅ 0)
  | _ => iprop(atPos ER (cell c (kS p i)) 1 ∅ 0 ∗ atPos ER (cell c (kR p i)) 1 ∅ 0)

/-- The memrefs an exchange sends from and lands in. -/
def srcR (p : Fin 12) : (i : Fin 6) → Memref sig .tc .vmem (sh (len p i)) .bf16
  | 0 => s1 p | 1 => s2 p | 2 => s3 p | 3 => gI p c | 4 => gE p c | 5 => gv p
def dstR (p : Fin 12) : (i : Fin 6) → Memref sig .tc .vmem (sh (len p i)) .bf16
  | 0 => r1 p | 1 => r2 p | 2 => r3 p | 3 => gI p c | 4 => gE p c | 5 => g2 p

theorem src_owns (d : Dev nD) (p : Fin 12) (i : Fin 6) (q : PosShare TreeShare) (T : Rows F .bf16) :
    (holds d (srcM p i) q (so p c i) (len p i) T : sProp 𝕄) = owns (d : Thread nD τ) (srcR c p i) q (win T (so p c i)) := by
  match i with
  | 0 => exact holds_owns d (s1 p) q T
  | 1 => exact holds_owns d (s2 p) q T
  | 2 => exact holds_owns d (s3 p) q T
  | 3 => exact holds_rows d (gv p) q (U p) T (inb_at (fitI p c)) rfl
  | 4 => exact holds_rows d (gv p) q (2 * U p) T (inb_at (fitE p c)) rfl
  | 5 => exact holds_owns d (gv p) q T

theorem dst_owns (d : Dev nD) (p : Fin 12) (i : Fin 6) (q : PosShare TreeShare) (T : Rows F .bf16) :
    (holds d (dstM p i) q (so p c i) (len p i) T : sProp 𝕄) = owns (d : Thread nD τ) (dstR c p i) q (win T (so p c i)) := by
  match i with
  | 0 => exact holds_owns d (r1 p) q T
  | 1 => exact holds_owns d (r2 p) q T
  | 2 => exact holds_owns d (r3 p) q T
  | 3 => exact holds_rows d (gv p) q (U p) T (inb_at (fitI p c)) rfl
  | 4 => exact holds_rows d (gv p) q (2 * U p) T (inb_at (fitE p c)) rfl
  | 5 => exact holds_owns d (g2 p) q T

theorem dst_amt (p : Fin 12) (i : Fin 6) : (dstR c p i).view.dmaCredit = amt p i := by
  match i with
  | 0 => rfl
  | 1 => rfl
  | 2 => rfl
  | 3 => rfl
  | 4 => rfl
  | 5 => rfl

theorem src_amt (p : Fin 12) (i : Fin 6) : (srcR c p i).view.dmaCredit = amt p i := by
  match i with
  | 0 => fin_cases p <;> rfl
  | 1 => fin_cases p <;> rfl
  | 2 => fin_cases p <;> rfl
  | 3 => rfl
  | 4 => rfl
  | 5 => fin_cases p <;> rfl

theorem peer_peer (p : Fin 12) (i : Fin 6) : peer p i (peer p i c) = c := nb_nb _ _

/-- Sending: the source is lent, the destination filled, the debt paid. -/
theorem run_send (p : Fin 12) (i : Fin 6) {j : Fin 3} (hj : j = dir p i)
    {hs : (srcR c p i).view.WordExact} {hd : (dstR c p i).view.WordExact}
    (Kt : PG F) (S : Finset (Fin 12 × Fin 6)) (hS : (p, i) ∈ S) :
    iprop(com X K ∗ owing S c ∗ tkt c p i 0 ∗ lent X p i c ∗ dest p i c)
      ⊢ iprop((iprop(owing (S.erase (p, i)) c ∗ tkt c p i 1) -∗ Runs c Kt Q)
        -∗ Runs c (rsend (srcR c p i) (dstR c p i) hs hd j c (sndS p i) (rcvS p i) Kt) Q) := by
  subst hj
  unfold lent dest anyh rsend owing
  simp only [tkt]
  rw [src_owns]
  simp only [dst_owns]
  iintro ⟨#HC, ⟨%W, HO⟩, ⟨HtS, HtR, HaS, HaR, HcR⟩, Hs, ⟨%T', Hd⟩⟩ Hk
  unfold owns
  icases Hs with ⟨%fs, %hfs, Hs⟩
  icases Hd with ⟨%fd, %hfd, Hd⟩
  iapply (Rounds.wp_send_pointsTo 𝒱₀ ER (proto X) (c : Thread nD τ) none (c' := (peer p i c : Thread nD τ))
    (sS := .dma (sndS p i)) (sem := .dma (rcvS p i)) (dst := dstR c p i) (fd := fd)
    (κ₁ := K (c, kS p i)) (κ₂ := K (peer p i c, kR p i)) (r₁ := 0) (r₂ := 0) (d₁ := (0 : Fin 3)) (d₂ := (0 : Fin 3))
    (by rw [show (((c : Thread nD τ), SemLoc.dma (sndS p i)) : GSem nD τ sig) = cell c (kS p i) from rfl, duties_0]; exact Finset.mem_singleton_self _)
    (by rw [show (((peer p i c : Thread nD τ), SemLoc.dma (rcvS p i)) : GSem nD τ sig) = cell (peer p i c) (kR p i) from rfl, duties_0]; exact Finset.mem_singleton_self _)
    () () (amt p i) (dst_amt c p i) (amount_0 X c (kS p i) 0) (amount_0 X (peer p i c) (kR p i) 0)
    (debt (S.erase (p, i)) c) (by unfold debt; exact (Finset.sum_erase_add S _ hS).symm) (W := W)
    (by
      refine BI.Entails.trans ?_ (Entails.of_eq (payload_0 X c (kS p i) 0).symm)
      show _ ⊢ lent X p i c
      unfold lent
      rw [src_owns]
      unfold owns
      iintro Hs
      iexists fs; isplitr; · ipureintro; exact hfs
      iexact Hs)
    (by
      refine BI.Entails.trans ?_ (Entails.of_eq (payload_0 X (peer p i c) (kR p i) 0).symm)
      show _ ⊢ landed X p i (peer p i c)
      unfold landed
      rw [peer_peer, dst_owns]
      unfold owns
      iintro Hd
      iexists _
      isplitr
      rotate_left
      · iexact Hd
      ipureintro
      rw [View.read_write_univ, hfs])) $$ [HO HtS HtR Hs Hd]
  · isplitr; · iapply (com_inv X K c (kS p i)); iexact HC
    isplitr; · iapply (com_inv X K (peer p i c) (kR p i)); iexact HC
    isplitl [Hs]; · iexact Hs
    isplitl [Hd]; · iexact Hd
    isplitl [HO]; · iexact HO
    isplitl [HtS]; · iexact HtS
    isplitr; · iapply (com_reached X K c (kS p i)); iexact HC
    isplitl [HtR]; · iexact HtR
    iapply (com_reached X K (peer p i c) (kR p i)); iexact HC
  iintro ⟨HcS, HO⟩
  iapply Hk
  isplitl [HO]; · iexists W; iexact HO
  isplitl [HcS]; · iexact HcS
  isplitl [HaS]; · iexact HaS
  isplitl [HcR]; · iexact HcR
  iexact HaR

/-- Waiting for an exchange: the source comes back, and what was sent here. -/
theorem run_recv (p : Fin 12) (i : Fin 6)
    {hs : (srcR c p i).view.WordExact} {hd : (dstR c p i).view.WordExact}
    (Kt : PG F) (S : Finset (Fin 12 × Fin 6)) (hS : ∀ y ∈ S, i.val < y.2.val) :
    iprop(com X K ∗ owing S c ∗ tkt c p i 1)
      ⊢ iprop((iprop(owing S c ∗ tkt c p i 2 ∗ lent X p i c ∗ landed X p i c) -∗ Runs c Kt Q)
        -∗ Runs c (rwait (srcR c p i) (dstR c p i) hs hd (sndS p i) (rcvS p i) Kt) Q) := by
  unfold rwait
  simp only [tkt]
  iintro ⟨#HC, HO, HcS, HaS, HcR, HaR⟩ Hk
  iapply (run_wait X K c (.inl (p, i)) (sndS p i) rfl (dstR c p i) (srcR c p i) _ S (fun y _ => by show 0 < _; omega) (src_amt c p i))
    $$ [HO HcS HaS]
  · isplitr; · iexact HC
    isplitl [HO]; · iexact HO
    isplitl [HcS]; · iexact HcS
    iexact HaS
  iintro ⟨HO, HaS, Hs⟩
  iapply (run_wait X K c (.inr (.inl (p, i))) (rcvS p i) rfl (srcR c p i) (dstR c p i) _ S
    (fun y hy => by show 2 + i.val < _; have := hS y hy; omega) (dst_amt c p i)) $$ [HO HcR HaR]
  · isplitr; · iexact HC
    isplitl [HO]; · iexact HO
    isplitl [HcR]; · iexact HcR
    iexact HaR
  iintro ⟨HO, HaR, Hd⟩
  ihave Hs := (show pay X c 0 (.inr (.inl (p, i))) ⊢ lent X p i c from .rfl) $$ Hs
  ihave Hd := (show pay X c 0 (.inr (.inr (.inl (p, i)))) ⊢ landed X p i c from .rfl) $$ Hd
  iapply Hk
  isplitl [HO]; · iexact HO
  isplitl [HaS HaR]
  · isplitl [HaS]; · iexact HaS
    iexact HaR
  isplitl [Hs]; · iexact Hs
  iexact Hd

/-! ## The input and the result -/

/-- Starting the copy of a part of the input. -/
theorem run_X (p : Fin 12) (Kt : PG F) :
    iprop(com X K ∗ inPart X p c ∗ anyh c (xv p) 0 (8 * U p) ∗ lcl c (.inr (.inr (.inl p))) 0)
      ⊢ iprop((lcl c (.inr (.inr (.inl p))) 1 -∗ Runs c Kt Q) -∗ Runs c (tX p Kt) Q) := by
  have hx : (inPart X p c : sProp 𝕄) = owns (c : Thread nD τ) (xpart p) fullShare (win (X c) (offs p)) :=
    holds_rows (n := 4096) c xin fullShare (8 * U p) (X c) (inb_n (U_facts p).2.2) rfl
  have hv : (win (X c) (offs p) : (sh (8 * U p)).Idx → Elt F .f32) = win (xw X p c) 0 := by
    funext j; unfold win xw; rw [Nat.zero_add]
  have hp : iprop(owns (c : Thread nD τ) (xpart p) fullShare (win (X c) (offs p)) ∗ owns (c : Thread nD τ) (xv p) fullShare (win (X c) (offs p)))
      ⊢ (pay X c 0 (.inr (.inr (.inr (.inl p)))) : sProp 𝕄) := by
    show _ ⊢ gotX X p c
    unfold gotX
    rw [hx, holds_owns, hv]
    iintro ⟨H, H'⟩
    isplitl [H'] <;> iassumption
  unfold anyh
  iintro ⟨#HC, Hx, ⟨%T, Hv⟩, Ht⟩ Hk
  ihave Hx := (Entails.of_eq hx) $$ Hx
  ihave Hv := (Entails.of_eq (holds_owns c (xv p) fullShare T)) $$ Hv
  iapply (run_copy X K c (.inr (.inr (.inl p))) (xpart p) (xv p) Kt fullShare (win (X c) (offs p)) rfl hp) $$ [Hx Hv Ht]
  · isplitr; · iexact HC
    isplitl [Hx]; · iexact Hx
    isplitl [Hv]; · iexists _; iexact Hv
    iexact Ht
  iexact Hk

/-- Starting a copy into the result. -/
theorem run_put (p : Fin 12) (k : Fin 4) {v : BitVec 32} (hv : po p c k = v.toNat) (ho : (Scalar.addi (w (offs p)) v).toNat = offs p + v.toNat)
    {h : Inb (8 * U p) (pl p k) (at0 v)} {h' : Inb 4096 (pl p k) (oo p v)} (Kt : PG F) :
    iprop(com X K ∗ ovPart X p k c ∗ anyh (n := 4096) c yout (offs p + po p c k) (pl p k) ∗ lcl c (.inr (.inr (.inr (p, k)))) 0)
      ⊢ iprop((lcl c (.inr (.inr (.inr (p, k)))) 1 -∗ Runs c Kt Q) -∗ Runs c (put (ov p) (at0 v) h (oo p v) h' (oS p k) Kt) Q) := by
  have hs : (ovPart X p k c : sProp 𝕄) = owns (c : Thread nD τ) (rows (ov p) (at0 v) h) fullShare (win (yv X p c) v.toNat) := by
    unfold ovPart; rw [hv]
    exact holds_rows c (ov p) fullShare (pl p k) (yv X p c) h rfl
  have hd : ∀ T : Rows F .f32, (holds (n := 4096) c yout fullShare (offs p + po p c k) (pl p k) T : sProp 𝕄)
      = owns (c : Thread nD τ) (rows (n := 4096) yout (oo p v) h') fullShare (win T (offs p + v.toNat)) := by
    intro T; rw [hv, ← ho]
    exact holds_rows (n := 4096) c yout fullShare (pl p k) T h' rfl
  have he : (win (yv X p c) v.toNat : (sh (pl p k)).Idx → Elt F .f32) = win (yo X p c) (offs p + v.toNat) := by
    funext j; unfold win yo; rw [Nat.add_assoc, Nat.add_sub_cancel_left]
  have hp : iprop(owns (c : Thread nD τ) (rows (ov p) (at0 v) h) fullShare (win (yv X p c) v.toNat)
        ∗ owns (c : Thread nD τ) (rows (n := 4096) yout (oo p v) h') fullShare (win (yv X p c) v.toNat))
      ⊢ (pay X c 0 (.inr (.inr (.inr (.inr (p, k))))) : sProp 𝕄) := by
    show _ ⊢ iprop(ovPart X p k c ∗ outPart X p k c)
    unfold outPart
    rw [hs, hd, he]
  unfold put
  unfold anyh
  iintro ⟨#HC, Hx, ⟨%T, Hv⟩, Ht⟩ Hk
  ihave Hx := (Entails.of_eq hs) $$ Hx
  ihave Hv := (Entails.of_eq (hd T)) $$ Hv
  iapply (run_copy X K c (.inr (.inr (.inr (p, k)))) (rows (ov p) (at0 v) h) (rows (n := 4096) yout (oo p v) h') Kt fullShare
    (win (yv X p c) v.toNat) rfl hp) $$ [Hx Hv Ht]
  · isplitr; · iexact HC
    isplitl [Hx]; · iexact Hx
    isplitl [Hv]; · iexists _; iexact Hv
    iexact Ht
  iexact Hk

/-- Waiting for it. -/
theorem run_pwait (p : Fin 12) (k : Fin 4) {v : BitVec 32}
    {h : Inb (8 * U p) (pl p k) (at0 v)} {h' : Inb 4096 (pl p k) (oo p v)} (Kt : PG F) (S : Finset (Fin 12 × Fin 6)) :
    iprop(com X K ∗ owing S c ∗ lcl c (.inr (.inr (.inr (p, k)))) 1)
      ⊢ iprop((iprop(owing S c ∗ lcl c (.inr (.inr (.inr (p, k)))) 2 ∗ ovPart X p k c ∗ outPart X p k c) -∗ Runs c Kt Q)
        -∗ Runs c (pwait (ov p) (at0 v) h (oo p v) h' (oS p k) Kt) Q) := by
  unfold pwait
  simp only [lcl]
  iintro ⟨#HC, HO, Hc, Ha⟩ Hk
  iapply (run_wait X K c (.inr (.inr (.inr (p, k)))) (oS p k) rfl (rows (ov p) (at0 v) h) (rows (n := 4096) yout (oo p v) h') Kt S
    (fun y _ => by show 0 < _; omega) rfl) $$ [HO Hc Ha]
  · isplitr; · iexact HC
    isplitl [HO]; · iexact HO
    isplitl [Hc]; · iexact Hc
    iexact Ha
  iintro ⟨HO, Ha, Hp⟩
  ihave Hp := (show pay X c 0 (.inr (.inr (.inr (.inr (p, k))))) ⊢ iprop(ovPart X p k c ∗ outPart X p k c) from .rfl) $$ Hp
  iapply Hk
  isplitl [HO]; · iexact HO
  isplitl [Ha]; · iexact Ha
  iexact Hp

end Rules

end Cert.AllReduce

end
-- ==== Proof.Sums.lean ====
/-
# What each stage computes

Places on neighbouring devices meet: these are facts about numbers. With them, the vector each stage stores is the window
of the contents `Values` gives the buffer.
-/
module

public import proofs.«01_k».proof.Proof.Values

@[expose] public section

noncomputable section

namespace Cert.AllReduce

open Cert.KernelIdeal Cert.KernelIdeal.Gen
open Idealize.ShloMosaic Idealize.ShloMosaic.TcCoe
open Idealize.SL Idealize.SL.RA

variable {F : FTy → Type} [FloatOps F]

/-- Where rows sent across lie on the device they come from. -/
theorem meet : ∀ p d,
    (wA p (nb (j1 p) d)).toNat + (wC p d).toNat = (wB p d).toNat ∧
    (wA p (nb (j1 p) d)).toNat + (wE p d).toNat = (wDd p d).toNat ∧
    (wB p (nb (j2 p) d)).toNat = (wDd p d).toNat ∧
    (wDd p (nb (j3 p) d)).toNat + (wF p (nb (j3 p) d)).toNat = (wH p d).toNat ∧
    (wDd p d).toNat + (wG p d).toNat = (wH p d).toNat := by decide +kernel

/-- Where the gathered pieces lie. -/
theorem gather : ∀ p d,
    (wI p (nb (j3 p) d)).toNat = (wJ p d).toNat ∧
    (wE p (nb (j2 p) d)).toNat = (wC p d).toNat ∧
    b1 p d * (4 * U p) + (wI p d).toNat = (wH p d).toNat ∧
    b1 p d * (4 * U p) + (wJ p d).toNat = (wK p d).toNat ∧
    b1 p d * (4 * U p) + (wC p d).toNat = (wB p d).toNat ∧
    b1 p (nb (j1 p) d) * (4 * U p) = (wA p d).toNat := by decide +kernel

/-- The two eighths of the gathered quarter, and the two quarters of the half. -/
theorem halves : ∀ p d,
    ((wI p d).toNat = (wE p d).toNat ∧ (wJ p d).toNat = (wE p d).toNat + U p ∨
      (wJ p d).toNat = (wE p d).toNat ∧ (wI p d).toNat = (wE p d).toNat + U p) ∧
    ((wE p d).toNat = 0 ∧ (wC p d).toNat = 2 * U p ∨ (wC p d).toNat = 0 ∧ (wE p d).toNat = 2 * U p) := by decide +kernel

/-- The four pieces of the result: eighth, eighth, quarter, half. -/
theorem pieces : ∀ p d,
    ((wH p d).toNat = (wDd p d).toNat ∧ (wK p d).toNat = (wDd p d).toNat + U p ∨
      (wK p d).toNat = (wDd p d).toNat ∧ (wH p d).toNat = (wDd p d).toNat + U p) ∧
    ((wDd p d).toNat = b1 p d * (4 * U p) ∧ (wB p d).toNat = b1 p d * (4 * U p) + 2 * U p ∨
      (wB p d).toNat = b1 p d * (4 * U p) ∧ (wDd p d).toNat = b1 p d * (4 * U p) + 2 * U p) ∧
    (b1 p d * (4 * U p) = 0 ∧ (wA p d).toNat = 4 * U p ∨ (wA p d).toNat = 0 ∧ b1 p d * (4 * U p) = 4 * U p) := by decide +kernel

theorem own_eighth : ∀ p d, (4 * b1 p d + 2 * b2 p d + b3 p d) * U p = (wH p d).toNat := by decide +kernel

section Vectors
variable (X : Dev nD → Rows F .f32) (p : Fin 12) (c : Dev nD)

theorem sends1 : sc (tr (win (xw X p c) (wA p c).toNat : Vec F (sh (4 * U p)) .f32)) = win (srcT p X c 0) 0 := by
  rw [sc_eq]; funext j
  show tr1 _ = tr1 (xw X p c ((wA p c).toNat + (0 + (j 0).val)) _)
  rw [Nat.zero_add]; rfl

theorem sends2 : sc (tr (ad (win (xw X p c) (wB p c).toNat : Vec F (sh (2 * U p)) .f32) (win (srcT p X (nb (j1 p) c) 0) (wC p c).toNat)))
    = win (srcT p X c 1) 0 := by
  rw [sc_eq]; funext j
  show tr1 (ad1 (xw X p c ((wB p c).toNat + (j 0).val) _) (t0 X p (nb (j1 p) c) ((wA p (nb (j1 p) c)).toNat + ((wC p c).toNat + (j 0).val)) _))
    = tr1 (ad1 (xw X p c ((wB p c).toNat + (0 + (j 0).val)) _) (t0 X p (nb (j1 p) c) ((wB p c).toNat + (0 + (j 0).val)) _))
  rw [Nat.zero_add, ← Nat.add_assoc (wA p (nb (j1 p) c)).toNat, (meet p c).1]

/-- The quarter kept, as the accumulator holds it. -/
def acT : Rows F .f32 := fun r s => S1 X p c ((wDd p c).toNat + r) s
/-- The eighth kept. -/
def acU : Rows F .f32 := fun r s => S2 X p c ((wH p c).toNat + r) s

theorem keeps2 : sc (ad (win (xw X p c) (wDd p c).toNat : Vec F (sh (2 * U p)) .f32) (win (srcT p X (nb (j1 p) c) 0) (wE p c).toNat))
    = win (acT X p c) 0 := by
  rw [sc_eq]; funext j
  show ad1 (xw X p c ((wDd p c).toNat + (j 0).val) _) (t0 X p (nb (j1 p) c) ((wA p (nb (j1 p) c)).toNat + ((wE p c).toNat + (j 0).val)) _)
    = ad1 (xw X p c ((wDd p c).toNat + (0 + (j 0).val)) _) (t0 X p (nb (j1 p) c) ((wDd p c).toNat + (0 + (j 0).val)) _)
  rw [Nat.zero_add, ← Nat.add_assoc (wA p (nb (j1 p) c)).toNat, (meet p c).2.1]

theorem sends3 : sc (tr (ad (win (acT X p c) (wF p c).toNat : Vec F (sh (U p)) .f32) (win (srcT p X (nb (j2 p) c) 1) (wF p c).toNat)))
    = win (srcT p X c 2) 0 := by
  rw [sc_eq]; funext j
  show tr1 (ad1 (S1 X p c ((wDd p c).toNat + ((wF p c).toNat + (j 0).val)) _) (t1 X p (nb (j2 p) c) ((wB p (nb (j2 p) c)).toNat + ((wF p c).toNat + (j 0).val)) _))
    = tr1 (ad1 (S1 X p c ((wDd p c).toNat + (wF p c).toNat + (0 + (j 0).val)) _)
        (t1 X p (nb (j2 p) c) ((wDd p c).toNat + (wF p c).toNat + (0 + (j 0).val)) _))
  rw [Nat.zero_add, (meet p c).2.2.1, Nat.add_assoc]

theorem keeps3 : sc (ad (win (acT X p c) (wG p c).toNat : Vec F (sh (U p)) .f32) (win (srcT p X (nb (j2 p) c) 1) (wG p c).toNat))
    = win (acU X p c) 0 := by
  rw [sc_eq]; funext j
  show ad1 (S1 X p c ((wDd p c).toNat + ((wG p c).toNat + (j 0).val)) _) (t1 X p (nb (j2 p) c) ((wB p (nb (j2 p) c)).toNat + ((wG p c).toNat + (j 0).val)) _)
    = ad1 (S1 X p c ((wH p c).toNat + (0 + (j 0).val)) _) (t1 X p (nb (j2 p) c) ((wH p c).toNat + (0 + (j 0).val)) _)
  rw [Nat.zero_add, (meet p c).2.2.1, ← Nat.add_assoc, (meet p c).2.2.2.2]

/-- The whole sum of the eighth, and its activation. -/
theorem finishes (j : (sh (U p)).Idx) :
    fv (ad (win (acU X p c) 0 : Vec F (sh (U p)) .f32) (win (srcT p X (nb (j3 p) c) 2) 0)) j = G X p c ((wH p c).toNat + (j 0).val) (j 1).val := by
  show fv1 (ad1 (S2 X p c ((wH p c).toNat + (0 + (j 0).val)) _)
      (t2 X p (nb (j3 p) c) ((wDd p (nb (j3 p) c)).toNat + (wF p (nb (j3 p) c)).toNat + (0 + (j 0).val)) _)) = _
  rw [Nat.zero_add, (meet p c).2.2.2.1]; rfl

theorem own_H {r : ℕ} (hr : r < U p) : own p ((wH p c).toNat + r) = c :=
  own_of (by rw [own_eighth]; omega) (by rw [own_eighth]; omega)

/-- A row outside the eighth is another device's to finish. -/
theorem not_own {r : ℕ} (h8 : r < 8 * U p) (h : r < (wH p c).toNat ∨ (wH p c).toNat + U p ≤ r) : own p r ≠ c := by
  intro he
  have := own_rows h8 he
  rw [own_eighth] at this
  omega

theorem writes0 : sc (fv (ad (win (acU X p c) 0 : Vec F (sh (U p)) .f32) (win (srcT p X (nb (j3 p) c) 2) 0)))
    = win (yv X p c) (wH p c).toNat := by
  rw [sc_eq]; funext j
  rw [finishes]
  unfold win yv
  rw [if_pos (own_H p c (j 0).isLt)]

theorem sends4 : sc (tr (fv (ad (win (acU X p c) 0 : Vec F (sh (U p)) .f32) (win (srcT p X (nb (j3 p) c) 2) 0))))
    = win (gT X p c) (wI p c).toNat := by
  rw [sc_eq]; funext j
  rw [tr_apply, finishes]
  show _ = tr1 (G X p (own p (b1 p c * (4 * U p) + ((wI p c).toNat + (j 0).val))) (b1 p c * (4 * U p) + ((wI p c).toNat + (j 0).val)) _)
  rw [← Nat.add_assoc, (gather p c).2.2.1, own_H p c (j 0).isLt]

/-- Rows written from gathered contents: `o` rows into the half `a` of the part. -/
theorem writes {k : ℕ} (d : Dev nD) (o v : ℕ) (hv : b1 p d * (4 * U p) + o = v)
    (hn : ∀ r < k, v + r < 8 * U p ∧ (v + r < (wH p c).toNat ∨ (wH p c).toNat + U p ≤ v + r)) :
    sc (ex (win (gT X p d) o : Vec F (sh k) .bf16)) = win (yv X p c) v := by
  rw [sc_eq]; funext j
  have h := hn (j 0).val (j 0).isLt
  unfold win yv
  rw [if_neg (not_own p c h.1 h.2), ← hv, Nat.add_assoc]
  rfl

theorem gT_j3 : gT X p (nb (j3 p) c) = gT X p c := by unfold gT; rw [(nb_b p c).2.2.2.1]
theorem gT_j2 : gT X p (nb (j2 p) c) = gT X p c := by unfold gT; rw [(nb_b p c).2.1]

theorem writes1 : sc (ex (win (gT X p c) (wJ p c).toNat : Vec F (sh (U p)) .bf16)) = win (yv X p c) (wK p c).toNat :=
  writes X p c c _ _ (gather p c).2.2.2.1 fun r hr => by
    have h := fitK p c; have h1 := pieces p c; omega
theorem writes2 : sc (ex (win (gT X p c) (wC p c).toNat : Vec F (sh (2 * U p)) .bf16)) = win (yv X p c) (wB p c).toNat :=
  writes X p c c _ _ (gather p c).2.2.2.2.1 fun r hr => by
    have h := fitB p c; have h1 := pieces p c; omega
theorem writes3 : sc (ex (win (gT X p (nb (j1 p) c)) 0 : Vec F (sh (4 * U p)) .bf16)) = win (yv X p c) (wA p c).toNat :=
  writes X p c _ _ _ (gather p c).2.2.2.2.2 fun r hr => by
    have h := fitA p c; have h1 := pieces p c; omega

end Vectors

end Cert.AllReduce

end
-- ==== Proof.Steps.lean ====
/-
# The stages

What a part holds on a device is a bag of items. A stage needs some and leaves others; `step` says so for every stage.
-/
module

public import proofs.«01_k».proof.Proof.Copies
public import proofs.«01_k».proof.Proof.Sums

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Items -/

/-- The items: tokens of the input copy, of the exchanges, of the result copies; the input part in place and copied; the
pieces of the result here and in the array; the buffers sent from; what is lent, what landed; this device's landing places
before the barrier, its peers' after; the accumulator; the gathered half. -/
inductive It where
  | lx (n : ℕ) | tk (i : Fin 6) (n : ℕ) | lo (k : Fin 4) (n : ℕ)
  | inP | xvA | xvH | ovA (k : Fin 4) | ovH (k : Fin 4) | yA (k : Fin 4) | yH (k : Fin 4)
  | sA (i : Fin 6) | lnt (i : Fin 6) | lnd (i : Fin 6) | giv (i : Fin 6) | dst (i : Fin 6)
  | acA | acS | acK | gA | gQ | gR | gH
  deriving DecidableEq

variable (X : Dev nD → Rows F .f32) (K : Dev nD × Cl → ℕ) (p : Fin 12) (c : Dev nD)

/-- What an item is, for part `p` on device `c`. -/
def den : It → sProp 𝕄
  | .lx n => lcl c (.inr (.inr (.inl p))) n
  | .tk i n => tkt c p i n
  | .lo k n => lcl c (.inr (.inr (.inr (p, k)))) n
  | .inP => inPart X p c
  | .xvA => anyh c (xv p) 0 (8 * U p)
  | .xvH => holds c (xv p) fullShare 0 (8 * U p) (xw X p c)
  | .ovA k => anyh c (ov p) (po p c k) (pl p k)
  | .ovH k => ovPart X p k c
  | .yA k => anyh (n := 4096) c yout (offs p + po p c k) (pl p k)
  | .yH k => outPart X p k c
  | .sA i => anyh c (srcM p i) 0 (sn p i)
  | .lnt i => lent X p i c
  | .lnd i => landed X p i c
  | .giv i => dest p i (peer p i c)
  | .dst i => dest p i c
  | .acA => anyh c (ac p) 0 (2 * U p)
  | .acS => holds c (ac p) fullShare 0 (2 * U p) (acT X p c)
  | .acK => iprop(holds c (ac p) fullShare 0 (U p) (acU X p c) ∗ anyh c (ac p) (U p) (U p))
  | .gA => anyh c (gv p) (wI p c).toNat (U p)
  | .gQ => holds c (gv p) fullShare.right (wE p c).toNat (2 * U p) (gT X p c)
  | .gR => holds c (gv p) fullShare.right 0 (4 * U p) (gT X p c)
  | .gH => holds c (gv p) fullShare 0 (4 * U p) (gT X p c)

/-- All items of a list. -/
def bag : List It → sProp 𝕄
  | [] => iprop(emp)
  | a :: l => iprop(den X p c a ∗ bag l)

/-- What a stage uses up. -/
def need : Stage → List It
  | .X => [.lx 0, .inP, .xvA]
  | .R1 => [.lx 1, .tk 0 0, .sA 0, .dst 0]
  | .R2 => [.tk 0 1, .xvH, .tk 1 0, .sA 1, .dst 1]
  | .K2 => [.xvH, .lnd 0, .acA]
  | .R3 => [.tk 1 1, .acS, .tk 2 0, .sA 2, .dst 2]
  | .K3 => [.acS, .lnd 1]
  | .Fin => [.tk 2 1, .acK, .ovA 0, .lo 0 0, .yA 0, .gA, .tk 3 0, .dst 3]
  | .A2 => [.tk 3 1, .tk 4 0, .dst 4]
  | .O1 => [.gQ, .ovA 1, .lo 1 0, .yA 1]
  | .A3 => [.tk 4 1, .gQ, .tk 5 0, .dst 5]
  | .O2 => [.gR, .ovA 2, .lo 2 0, .yA 2]
  | .T => [.tk 5 1, .gR, .ovA 3, .lo 3 0, .yA 3]
  | .W => [.lo 0 1, .lo 1 1, .lo 2 1, .lo 3 1]

/-- What it leaves. -/
def gain : Stage → List It
  | .X => [.lx 1]
  | .R1 => [.lx 2, .xvH, .inP, .tk 0 1]
  | .R2 => [.tk 0 2, .lnt 0, .lnd 0, .xvH, .tk 1 1]
  | .K2 => [.xvH, .lnd 0, .acS]
  | .R3 => [.tk 1 2, .lnt 1, .lnd 1, .acS, .tk 2 1]
  | .K3 => [.acK, .lnd 1]
  | .Fin => [.tk 2 2, .lnt 2, .lnd 2, .acK, .lo 0 1, .tk 3 1]
  | .A2 => [.tk 3 2, .tk 4 1, .gQ]
  | .O1 => [.gQ, .lo 1 1]
  | .A3 => [.tk 4 2, .tk 5 1, .gR]
  | .O2 => [.gR, .lo 2 1]
  | .T => [.tk 5 2, .gH, .lnd 5, .lo 3 1]
  | .W => [.lo 0 2, .ovH 0, .yH 0, .lo 1 2, .ovH 1, .yH 1, .lo 2 2, .ovH 2, .yH 2, .lo 3 2, .ovH 3, .yH 3]

/-- How many exchanges must have been sent by every part before the stage waits. -/
def waits : Stage → ℕ
  | .R2 => 1 | .R3 => 2 | .Fin => 3 | .A2 => 4 | .A3 => 5 | .T => 6
  | _ => 0

/-- The exchange the stage sends. -/
def sends : Stage → Option (Fin 6)
  | .R1 => some 0 | .R2 => some 1 | .R3 => some 2 | .Fin => some 3 | .A2 => some 4 | .A3 => some 5
  | _ => none

/-- What is owed after the stage. -/
def pays (S : Finset (Fin 12 × Fin 6)) : Option (Fin 6) → Finset (Fin 12 × Fin 6)
  | none => S
  | some i => S.erase (p, i)

/-- Two runs of rows side by side, in either order, are one. -/
theorem join_either {n : ℕ} {e : EltTy} (mr : Memref sig .tc .vmem (sh n) e) (q : PosShare TreeShare) {a b o k : ℕ} (T : Rows F e)
    (h : a = o ∧ b = o + k ∨ b = o ∧ a = o + k) :
    iprop(holds c mr q a k T ∗ holds c mr q b k T) ⊢ (holds c mr q o (2 * k) T : sProp 𝕄) := by
  rw [Nat.two_mul]
  rcases h with ⟨rfl, rfl⟩ | ⟨rfl, rfl⟩
  · exact holds_join c mr q a k k T
  · refine BI.Entails.trans ?_ (holds_join c mr q b k k T)
    show _ ⊢ iprop(holds c mr q b k T ∗ holds c mr q (b + k) k T)
    iintro ⟨H, H'⟩
    isplitl [H'] <;> iassumption

variable {Q : PUnit → sProp (MT nD τ sig Unit (Elt F) ℕ UU ℕ)} (Kt : PG F) (S : Finset (Fin 12 × Fin 6))

/-! ## The reads and writes as the stages make them -/

section Access
variable {n k : ℕ}

/-- A read whose result is not used. -/
theorem run_peek {e : EltTy} (mr : Memref sig .tc .vmem (sh n) e) {o : Fin 2 → ℕ} (h : Inb n k o) (h1 : o 1 = 0) (hk : 0 < k) (o' k' : ℕ)
    (ho : o' ≤ o 0) (hk' : o 0 + k ≤ o' + k') :
    (anyh c mr o' k' : sProp 𝕄) ⊢ iprop((anyh c mr o' k' -∗ Runs c Kt Q) -∗ Runs c (ld mr o h hk fun _ => Kt) Q) := by
  refine (show (anyh c mr o' k' : sProp 𝕄) ⊢ iprop(∃ T : Rows F e, holds c mr fullShare o' k' T) from .rfl).trans ?_
  iintro ⟨%T, H⟩ Hk
  iapply (run_ld c mr h h1 hk _ fullShare o' k' T ho hk') $$ H
  iintro H
  ihave H := (holds_any c mr o' k' T) $$ H
  iapply Hk
  iexact H

/-- A read of rows from a word's row. -/
theorem run_ldA {e : EltTy} (mr : Memref sig .tc .vmem (sh n) e) {v : BitVec 32} (h : Inb n k (at0 v)) (hk : 0 < k)
    (G : Vec F (sh k) e → PG F) (q : PosShare TreeShare) (o' k' : ℕ) (T : Rows F e) (ho : o' ≤ v.toNat) (hk' : v.toNat + k ≤ o' + k') :
    (holds c mr q o' k' T : sProp 𝕄) ⊢ iprop((holds c mr q o' k' T -∗ Runs c (G (win T v.toNat)) Q) -∗ Runs c (ld mr (at0 v) h hk G) Q) :=
  run_ld c mr h rfl hk G q o' k' T ho hk'

/-- A read of the first rows. -/
theorem run_ld0 {e : EltTy} (mr : Memref sig .tc .vmem (sh n) e) (h : Inb n k ![0, 0]) (hk : 0 < k)
    (G : Vec F (sh k) e → PG F) (q : PosShare TreeShare) (k' : ℕ) (T : Rows F e) (hk' : k ≤ k') :
    (holds c mr q 0 k' T : sProp 𝕄) ⊢ iprop((holds c mr q 0 k' T -∗ Runs c (G (win T 0)) Q) -∗ Runs c (ld mr ![0, 0] h hk G) Q) :=
  run_ld c mr h rfl hk G q 0 k' T (Nat.le_refl _) (by show 0 + k ≤ 0 + k'; omega)

/-- The kernel reads rows it is about to write; then it writes them. -/
theorem run_wF0 (mr : Memref sig .tc .vmem (sh n) .f32) (h : Inb n k ![0, 0]) (hk : 0 < k) (v : Vec F (sh k) .f32) (T' : Rows F .f32)
    (hv : v = win T' 0) :
    (anyh c mr 0 k : sProp 𝕄) ⊢ iprop((holds c mr fullShare 0 k T' -∗ Runs c Kt Q)
      -∗ Runs c (ld mr ![0, 0] h hk fun _ => stF mr ![0, 0] h hk v Kt) Q) := by
  iintro H Hk
  iapply (run_peek c (stF mr ![0, 0] h hk v Kt) mr h rfl hk 0 k (Nat.le_refl _) (Nat.le_refl _)) $$ H
  iintro H
  iapply (show (anyh c mr 0 k : sProp 𝕄) ⊢ iprop((holds c mr fullShare 0 k T' -∗ Runs c Kt Q) -∗ Runs c (stF mr ![0, 0] h hk v Kt) Q)
    from run_stF c mr h rfl hk v Kt T' hv) $$ H
  iexact Hk

theorem run_wFA (mr : Memref sig .tc .vmem (sh n) .f32) {b : BitVec 32} (h : Inb n k (at0 b)) (hk : 0 < k) (v : Vec F (sh k) .f32) (T' : Rows F .f32)
    (hv : v = win T' b.toNat) :
    (anyh c mr b.toNat k : sProp 𝕄) ⊢ iprop((holds c mr fullShare b.toNat k T' -∗ Runs c Kt Q)
      -∗ Runs c (ld mr (at0 b) h hk fun _ => stF mr (at0 b) h hk v Kt) Q) := by
  iintro H Hk
  iapply (run_peek c (stF mr (at0 b) h hk v Kt) mr h rfl hk b.toNat k (Nat.le_refl _) (Nat.le_refl _)) $$ H
  iintro H
  iapply (show (anyh c mr b.toNat k : sProp 𝕄) ⊢ iprop((holds c mr fullShare b.toNat k T' -∗ Runs c Kt Q) -∗ Runs c (stF mr (at0 b) h hk v Kt) Q)
    from run_stF c mr h rfl hk v Kt T' hv) $$ H
  iexact Hk

theorem run_wH0 (mr : Memref sig .tc .vmem (sh n) .bf16) (hw : mr.IsWhole) (h : Inb n k ![0, 0]) (hk : 0 < k) (h2 : 2 ∣ k)
    (v : Vec F (sh k) .bf16) (T' : Rows F .bf16) (hv : v = win T' 0) :
    (anyh c mr 0 k : sProp 𝕄) ⊢ iprop((holds c mr fullShare 0 k T' -∗ Runs c Kt Q)
      -∗ Runs c (ld mr ![0, 0] h hk fun _ => stH mr hw ![0, 0] h hk (Nat.dvd_zero 2) h2 v Kt) Q) := by
  iintro H Hk
  iapply (run_peek c (stH mr hw ![0, 0] h hk (Nat.dvd_zero 2) h2 v Kt) mr h rfl hk 0 k (Nat.le_refl _) (Nat.le_refl _)) $$ H
  iintro H
  iapply (show (anyh c mr 0 k : sProp 𝕄) ⊢ iprop((holds c mr fullShare 0 k T' -∗ Runs c Kt Q)
    -∗ Runs c (stH mr hw ![0, 0] h hk (Nat.dvd_zero 2) h2 v Kt) Q) from run_stH c mr hw h rfl hk (Nat.dvd_zero 2) h2 v Kt T' hv) $$ H
  iexact Hk

theorem run_wHA (mr : Memref sig .tc .vmem (sh n) .bf16) (hw : mr.IsWhole) {b : BitVec 32} (h : Inb n k (at0 b)) (hk : 0 < k)
    (ho : 2 ∣ b.toNat) (h2 : 2 ∣ k) (v : Vec F (sh k) .bf16) (T' : Rows F .bf16) (hv : v = win T' b.toNat) :
    (anyh c mr b.toNat k : sProp 𝕄) ⊢ iprop((holds c mr fullShare b.toNat k T' -∗ Runs c Kt Q)
      -∗ Runs c (ld mr (at0 b) h hk fun _ => stH mr hw (at0 b) h hk ho h2 v Kt) Q) := by
  iintro H Hk
  iapply (run_peek c (stH mr hw (at0 b) h hk ho h2 v Kt) mr h rfl hk b.toNat k (Nat.le_refl _) (Nat.le_refl _)) $$ H
  iintro H
  iapply (show (anyh c mr b.toNat k : sProp 𝕄) ⊢ iprop((holds c mr fullShare b.toNat k T' -∗ Runs c Kt Q)
    -∗ Runs c (stH mr hw (at0 b) h hk ho h2 v Kt) Q) from run_stH c mr hw h rfl hk ho h2 v Kt T' hv) $$ H
  iexact Hk

end Access

/-! ## Stage by stage -/

theorem step_X (A : sProp 𝕄) : iprop(com X K ∗ A ∗ bag X p c (need .X))
    ⊢ iprop((iprop(A ∗ bag X p c (gain .X)) -∗ Runs c Kt Q) -∗ Runs c (tX p Kt) Q) := by
  simp only [need, gain, bag, den]
  iintro ⟨#HC, HO, Hl, Hx, Hv, -⟩ Hk
  iapply (run_X X K c p Kt) $$ [Hl Hx Hv]
  · isplitr; · iexact HC
    isplitl [Hx]; · iexact Hx
    isplitl [Hv]; · iexact Hv
    iexact Hl
  iintro Hl
  iapply Hk
  isplitl [HO]; · iexact HO
  isplitl [Hl]; · iexact Hl
  iempintro

/-- What the fourth and the fifth exchange land is the rest of the quarter, and of the half. -/
theorem landed3 : (landed X p 3 c : sProp 𝕄) = holds c (gv p) fullShare (wJ p c).toNat (U p) (gT X p c) := by
  show (holds c (gv p) fullShare (wI p (nb (j3 p) c)).toNat (U p) (gT X p (nb (j3 p) c)) : sProp 𝕄) = _
  rw [(gather p c).1, gT_j3]
theorem landed4 : (landed X p 4 c : sProp 𝕄) = holds c (gv p) fullShare (wC p c).toNat (2 * U p) (gT X p c) := by
  show (holds c (gv p) fullShare (wE p (nb (j2 p) c)).toNat (2 * U p) (gT X p (nb (j2 p) c)) : sProp 𝕄) = _
  rw [(gather p c).2.1, gT_j2]

theorem step_R1 (hS : (p, 0) ∈ S) : iprop(com X K ∗ owing S c ∗ bag X p c (need .R1))
    ⊢ iprop((iprop(owing (S.erase (p, 0)) c ∗ bag X p c (gain .R1)) -∗ Runs c Kt Q) -∗ Runs c (tR1 p c Kt) Q) := by
  simp only [need, gain, bag, den, lcl]
  unfold tR1
  iintro ⟨#HC, HO, ⟨Hc, Ha⟩, Ht, Hs, Hd, -⟩ Hk
  iapply (run_wait X K c (.inr (.inr (.inl p))) (xS p) rfl (xpart p) (xv p) _ S (fun y _ => by show 0 < _; omega) rfl) $$ [HO Hc Ha]
  · isplitr; · iexact HC
    isplitl [HO]; · iexact HO
    isplitl [Hc]; · iexact Hc
    iexact Ha
  iintro ⟨HO, Ha, Hp⟩
  ihave Hp := (show pay X c 0 (.inr (.inr (.inr (.inl p)))) ⊢ iprop(holds c (xv p) fullShare 0 (8 * U p) (xw X p c) ∗ inPart X p c) from .rfl) $$ Hp
  icases Hp with ⟨Hv, Hx⟩
  iapply (run_ldA c (xv p) (inb_at (fitA p c)) (pos4 p) _ fullShare 0 (8 * U p) (xw X p c) (Nat.zero_le _)
    (by rw [Nat.zero_add]; exact fitA p c)) $$ Hv
  iintro Hv
  ihave Hs := (show anyh c (srcM p 0) 0 (sn p 0) ⊢ (anyh c (s1 p) 0 (4 * U p) : sProp 𝕄) from .rfl) $$ Hs
  iapply (run_wH0 c _ (s1 p) (s1_whole p) (inb_00 (Nat.le_refl _)) (pos4 p) (even4 p) _ (srcT p X c 0) (sends1 X p c)) $$ Hs
  iintro Hs
  ihave Hs := (show (holds c (s1 p) fullShare 0 (4 * U p) (srcT p X c 0) : sProp 𝕄) ⊢ lent X p 0 c from .rfl) $$ Hs
  iapply (run_send X K c p 0 (hs := (s1_whole p).wordExact) (hd := (r1_whole p).wordExact) rfl Kt S hS) $$ [HO Ht Hs Hd]
  · isplitr; · iexact HC
    isplitl [HO]; · iexact HO
    isplitl [Ht]; · iexact Ht
    isplitl [Hs]; · iexact Hs
    iexact Hd
  iintro ⟨HO, Ht⟩
  iapply Hk
  isplitl [HO]; · iexact HO
  isplitl [Ha]; · iexact Ha
  isplitl [Hv]; · iexact Hv
  isplitl [Hx]; · iexact Hx
  isplitl [Ht]; · iexact Ht
  iempintro

theorem step_R2 (hw : ∀ y ∈ S, 0 < y.2.val) (hS : (p, 1) ∈ S) : iprop(com X K ∗ owing S c ∗ bag X p c (need .R2))
    ⊢ iprop((iprop(owing (S.erase (p, 1)) c ∗ bag X p c (gain .R2)) -∗ Runs c Kt Q) -∗ Runs c (tR2 p c Kt) Q) := by
  simp only [need, gain, bag, den]
  unfold tR2
  iintro ⟨#HC, HO, Hr, Hv, Ht, Hs, Hd, -⟩ Hk
  iapply (run_recv X K c p 0 (hs := (s1_whole p).wordExact) (hd := (r1_whole p).wordExact) _ S hw) $$ [HO Hr]
  · isplitr; · iexact HC
    isplitl [HO]; · iexact HO
    iexact Hr
  iintro ⟨HO, Hr, Hl, Hn⟩
  ihave Hn := (show landed X p 0 c ⊢ (holds c (r1 p) fullShare 0 (4 * U p) (srcT p X (nb (j1 p) c) 0) : sProp 𝕄) from .rfl) $$ Hn
  iapply (run_ldA c (xv p) (inb_at (fitB p c)) (pos2 p) _ fullShare 0 (8 * U p) (xw X p c) (Nat.zero_le _)
    (by rw [Nat.zero_add]; exact fitB p c)) $$ Hv
  iintro Hv
  iapply (run_ldA c (r1 p) (inb_at (fitC p c)) (pos2 p) _ fullShare 0 (4 * U p) (srcT p X (nb (j1 p) c) 0) (Nat.zero_le _)
    (by rw [Nat.zero_add]; exact fitC p c)) $$ Hn
  iintro Hn
  ihave Hs := (show anyh c (srcM p 1) 0 (sn p 1) ⊢ (anyh c (s2 p) 0 (2 * U p) : sProp 𝕄) from .rfl) $$ Hs
  iapply (run_wH0 c _ (s2 p) (s2_whole p) (inb_00 (Nat.le_refl _)) (pos2 p) (even2 p) _ (srcT p X c 1) (sends2 X p c)) $$ Hs
  iintro Hs
  ihave Hs := (show (holds c (s2 p) fullShare 0 (2 * U p) (srcT p X c 1) : sProp 𝕄) ⊢ lent X p 1 c from .rfl) $$ Hs
  iapply (run_send X K c p 1 (hs := (s2_whole p).wordExact) (hd := (r2_whole p).wordExact) rfl Kt S hS) $$ [HO Ht Hs Hd]
  · isplitr; · iexact HC
    isplitl [HO]; · iexact HO
    isplitl [Ht]; · iexact Ht
    isplitl [Hs]; · iexact Hs
    iexact Hd
  iintro ⟨HO, Ht⟩
  ihave Hn := (show (holds c (r1 p) fullShare 0 (4 * U p) (srcT p X (nb (j1 p) c) 0) : sProp 𝕄) ⊢ landed X p 0 c from .rfl) $$ Hn
  iapply Hk
  isplitl [HO]; · iexact HO
  isplitl [Hr]; · iexact Hr
  isplitl [Hl]; · iexact Hl
  isplitl [Hn]; · iexact Hn
  isplitl [Hv]; · iexact Hv
  isplitl [Ht]; · iexact Ht
  iempintro

theorem step_K2 : iprop(com X K ∗ owing S c ∗ bag X p c (need .K2))
    ⊢ iprop((iprop(owing S c ∗ bag X p c (gain .K2)) -∗ Runs c Kt Q) -∗ Runs c (tK2 p c Kt) Q) := by
  simp only [need, gain, bag, den]
  unfold tK2
  iintro ⟨#HC, HO, Hv, Hn, Hs, -⟩ Hk
  ihave Hn := (show landed X p 0 c ⊢ (holds c (r1 p) fullShare 0 (4 * U p) (srcT p X (nb (j1 p) c) 0) : sProp 𝕄) from .rfl) $$ Hn
  iapply (run_ldA c (xv p) (inb_at (fitD p c)) (pos2 p) _ fullShare 0 (8 * U p) (xw X p c) (Nat.zero_le _)
    (by rw [Nat.zero_add]; exact fitD p c)) $$ Hv
  iintro Hv
  iapply (run_ldA c (r1 p) (inb_at (fitE p c)) (pos2 p) _ fullShare 0 (4 * U p) (srcT p X (nb (j1 p) c) 0) (Nat.zero_le _)
    (by rw [Nat.zero_add]; exact fitE p c)) $$ Hn
  iintro Hn
  iapply (run_wF0 c _ (ac p) (inb_00 (Nat.le_refl _)) (pos2 p) _ (acT X p c) (keeps2 X p c)) $$ Hs
  iintro Hs
  ihave Hn := (show (holds c (r1 p) fullShare 0 (4 * U p) (srcT p X (nb (j1 p) c) 0) : sProp 𝕄) ⊢ landed X p 0 c from .rfl) $$ Hn
  iapply Hk
  isplitl [HO]; · iexact HO
  isplitl [Hv]; · iexact Hv
  isplitl [Hn]; · iexact Hn
  isplitl [Hs]; · iexact Hs
  iempintro

theorem step_R3 (hw : ∀ y ∈ S, 1 < y.2.val) (hS : (p, 2) ∈ S) : iprop(com X K ∗ owing S c ∗ bag X p c (need .R3))
    ⊢ iprop((iprop(owing (S.erase (p, 2)) c ∗ bag X p c (gain .R3)) -∗ Runs c Kt Q) -∗ Runs c (tR3 p c Kt) Q) := by
  simp only [need, gain, bag, den]
  unfold tR3
  iintro ⟨#HC, HO, Hr, Hv, Ht, Hs, Hd, -⟩ Hk
  iapply (run_recv X K c p 1 (hs := (s2_whole p).wordExact) (hd := (r2_whole p).wordExact) _ S hw) $$ [HO Hr]
  · isplitr; · iexact HC
    isplitl [HO]; · iexact HO
    iexact Hr
  iintro ⟨HO, Hr, Hl, Hn⟩
  ihave Hn := (show landed X p 1 c ⊢ (holds c (r2 p) fullShare 0 (2 * U p) (srcT p X (nb (j2 p) c) 1) : sProp 𝕄) from .rfl) $$ Hn
  iapply (run_ldA c (ac p) (inb_at (fitF p c)) (pos1 p) _ fullShare 0 (2 * U p) (acT X p c) (Nat.zero_le _)
    (by rw [Nat.zero_add]; exact fitF p c)) $$ Hv
  iintro Hv
  iapply (run_ldA c (r2 p) (inb_at (fitF p c)) (pos1 p) _ fullShare 0 (2 * U p) (srcT p X (nb (j2 p) c) 1) (Nat.zero_le _)
    (by rw [Nat.zero_add]; exact fitF p c)) $$ Hn
  iintro Hn
  ihave Hs := (show anyh c (srcM p 2) 0 (sn p 2) ⊢ (anyh c (s3 p) 0 (U p) : sProp 𝕄) from .rfl) $$ Hs
  iapply (run_wH0 c _ (s3 p) (s3_whole p) (inb_00 (Nat.le_refl _)) (pos1 p) (even1 p) _ (srcT p X c 2) (sends3 X p c)) $$ Hs
  iintro Hs
  ihave Hs := (show (holds c (s3 p) fullShare 0 (U p) (srcT p X c 2) : sProp 𝕄) ⊢ lent X p 2 c from .rfl) $$ Hs
  iapply (run_send X K c p 2 (hs := (s3_whole p).wordExact) (hd := (r3_whole p).wordExact) rfl Kt S hS) $$ [HO Ht Hs Hd]
  · isplitr; · iexact HC
    isplitl [HO]; · iexact HO
    isplitl [Ht]; · iexact Ht
    isplitl [Hs]; · iexact Hs
    iexact Hd
  iintro ⟨HO, Ht⟩
  ihave Hn := (show (holds c (r2 p) fullShare 0 (2 * U p) (srcT p X (nb (j2 p) c) 1) : sProp 𝕄) ⊢ landed X p 1 c from .rfl) $$ Hn
  iapply Hk
  isplitl [HO]; · iexact HO
  isplitl [Hr]; · iexact Hr
  isplitl [Hl]; · iexact Hl
  isplitl [Hn]; · iexact Hn
  isplitl [Hv]; · iexact Hv
  isplitl [Ht]; · iexact Ht
  iempintro

theorem step_K3 : iprop(com X K ∗ owing S c ∗ bag X p c (need .K3))
    ⊢ iprop((iprop(owing S c ∗ bag X p c (gain .K3)) -∗ Runs c Kt Q) -∗ Runs c (tK3 p c Kt) Q) := by
  simp only [need, gain, bag, den]
  unfold tK3
  iintro ⟨#HC, HO, Hv, Hn, -⟩ Hk
  ihave Hn := (show landed X p 1 c ⊢ (holds c (r2 p) fullShare 0 (2 * U p) (srcT p X (nb (j2 p) c) 1) : sProp 𝕄) from .rfl) $$ Hn
  iapply (run_ldA c (ac p) (inb_at (fitG p c)) (pos1 p) _ fullShare 0 (2 * U p) (acT X p c) (Nat.zero_le _)
    (by rw [Nat.zero_add]; exact fitG p c)) $$ Hv
  iintro Hv
  iapply (run_ldA c (r2 p) (inb_at (fitG p c)) (pos1 p) _ fullShare 0 (2 * U p) (srcT p X (nb (j2 p) c) 1) (Nat.zero_le _)
    (by rw [Nat.zero_add]; exact fitG p c)) $$ Hn
  iintro Hn
  ihave Hv := (holds_any c (ac p) 0 (2 * U p) (acT X p c)) $$ Hv
  ihave Hv := (show anyh c (ac p) 0 (2 * U p) ⊢ (iprop(anyh c (ac p) 0 (U p) ∗ anyh c (ac p) (U p) (U p)) : sProp 𝕄) from by
    have h := anyh_split (F := F) c (ac p) 0 (U p) (U p)
    rwa [← Nat.two_mul, Nat.zero_add] at h) $$ Hv
  icases Hv with ⟨Hs, Hu⟩
  iapply (run_wF0 c _ (ac p) (inb_00 (show U p ≤ 2 * U p by omega)) (pos1 p) _ (acU X p c) (keeps3 X p c)) $$ Hs
  iintro Hs
  ihave Hn := (show (holds c (r2 p) fullShare 0 (2 * U p) (srcT p X (nb (j2 p) c) 1) : sProp 𝕄) ⊢ landed X p 1 c from .rfl) $$ Hn
  iapply Hk
  isplitl [HO]; · iexact HO
  isplitl [Hs Hu]
  · isplitl [Hs]; · iexact Hs
    iexact Hu
  isplitl [Hn]; · iexact Hn
  iempintro

theorem step_Fin (hw : ∀ y ∈ S, 2 < y.2.val) (hS : (p, 3) ∈ S) : iprop(com X K ∗ owing S c ∗ bag X p c (need .Fin))
    ⊢ iprop((iprop(owing (S.erase (p, 3)) c ∗ bag X p c (gain .Fin)) -∗ Runs c Kt Q) -∗ Runs c (tFin p c Kt) Q) := by
  simp only [need, gain, bag, den]
  unfold tFin
  iintro ⟨#HC, HO, Hr, ⟨Hv, Hu⟩, Ho, Hq, Hy, Hs, Ht, Hd, -⟩ Hk
  iapply (run_recv X K c p 2 (hs := (s3_whole p).wordExact) (hd := (r3_whole p).wordExact) _ S hw) $$ [HO Hr]
  · isplitr; · iexact HC
    isplitl [HO]; · iexact HO
    iexact Hr
  iintro ⟨HO, Hr, Hl, Hn⟩
  ihave Hn := (show landed X p 2 c ⊢ (holds c (r3 p) fullShare 0 (U p) (srcT p X (nb (j3 p) c) 2) : sProp 𝕄) from .rfl) $$ Hn
  iapply (run_ld0 c (ac p) (inb_00 (show U p ≤ 2 * U p by omega)) (pos1 p) _ fullShare (U p) (acU X p c) (Nat.le_refl _)) $$ Hv
  iintro Hv
  iapply (run_ld0 c (r3 p) (inb_00 (Nat.le_refl _)) (pos1 p) _ fullShare (U p) (srcT p X (nb (j3 p) c) 2) (Nat.le_refl _)) $$ Hn
  iintro Hn
  ihave Ho := (show anyh c (ov p) (po p c 0) (pl p 0) ⊢ (anyh c (ov p) (wH p c).toNat (U p) : sProp 𝕄) from .rfl) $$ Ho
  iapply (run_wFA c _ (ov p) (inb_at (fitH p c)) (pos1 p) _ (yv X p c) (writes0 X p c)) $$ Ho
  iintro Ho
  ihave Ho := (show (holds c (ov p) fullShare (wH p c).toNat (U p) (yv X p c) : sProp 𝕄) ⊢ ovPart X p 0 c from .rfl) $$ Ho
  iapply (run_put X K c p 0 (v := wH p c) rfl (places_out p c).2.2.1 _) $$ [Ho Hy Hq]
  · isplitr; · iexact HC
    isplitl [Ho]; · iexact Ho
    isplitl [Hy]; · iexact Hy
    iexact Hq
  iintro Hq
  iapply (run_wHA c _ (gv p) (gv_whole p) (inb_at (fitI p c)) (pos1 p) (evenI p c) (even1 p) _ (gT X p c) (sends4 X p c)) $$ Hs
  iintro Hs
  ihave Hs := (show (holds c (gv p) fullShare (wI p c).toNat (U p) (gT X p c) : sProp 𝕄) ⊢ lent X p 3 c from .rfl) $$ Hs
  iapply (run_send X K c p 3 (hs := gI_words p c) (hd := gI_words p c) rfl Kt S hS) $$ [HO Ht Hs Hd]
  · isplitr; · iexact HC
    isplitl [HO]; · iexact HO
    isplitl [Ht]; · iexact Ht
    isplitl [Hs]; · iexact Hs
    iexact Hd
  iintro ⟨HO, Ht⟩
  ihave Hn := (show (holds c (r3 p) fullShare 0 (U p) (srcT p X (nb (j3 p) c) 2) : sProp 𝕄) ⊢ landed X p 2 c from .rfl) $$ Hn
  iapply Hk
  isplitl [HO]; · iexact HO
  isplitl [Hr]; · iexact Hr
  isplitl [Hl]; · iexact Hl
  isplitl [Hn]; · iexact Hn
  isplitl [Hv Hu]
  · isplitl [Hv]; · iexact Hv
    iexact Hu
  isplitl [Hq]; · iexact Hq
  isplitl [Ht]; · iexact Ht
  iempintro

theorem step_A2 (hw : ∀ y ∈ S, 3 < y.2.val) (hS : (p, 4) ∈ S) : iprop(com X K ∗ owing S c ∗ bag X p c (need .A2))
    ⊢ iprop((iprop(owing (S.erase (p, 4)) c ∗ bag X p c (gain .A2)) -∗ Runs c Kt Q) -∗ Runs c (tA2 p c Kt) Q) := by
  simp only [need, gain, bag, den]
  unfold tA2
  iintro ⟨#HC, HO, Hr, Ht, Hd, -⟩ Hk
  iapply (run_recv X K c p 3 (hs := gI_words p c) (hd := gI_words p c) _ S hw) $$ [HO Hr]
  · isplitr; · iexact HC
    isplitl [HO]; · iexact HO
    iexact Hr
  iintro ⟨HO, Hr, Hl, Hn⟩
  ihave Hn := (Entails.of_eq (landed3 X p c)) $$ Hn
  ihave Hl := (show lent X p 3 c ⊢ (holds c (gv p) fullShare (wI p c).toNat (U p) (gT X p c) : sProp 𝕄) from .rfl) $$ Hl
  ihave Hg := (join_either c (gv p) fullShare (gT X p c) (halves p c).1) $$ [Hl Hn]
  · isplitl [Hl] <;> iassumption
  ihave Hg := (holds_share c (gv p) (wE p c).toNat (2 * U p) (gT X p c)) $$ Hg
  icases Hg with ⟨Hs, Hg⟩
  ihave Hs := (show (holds c (gv p) fullShare.left (wE p c).toNat (2 * U p) (gT X p c) : sProp 𝕄) ⊢ lent X p 4 c from .rfl) $$ Hs
  iapply (run_send X K c p 4 (hs := gE_words p c) (hd := gE_words p c) rfl Kt S hS) $$ [HO Ht Hs Hd]
  · isplitr; · iexact HC
    isplitl [HO]; · iexact HO
    isplitl [Ht]; · iexact Ht
    isplitl [Hs]; · iexact Hs
    iexact Hd
  iintro ⟨HO, Ht⟩
  iapply Hk
  isplitl [HO]; · iexact HO
  isplitl [Hr]; · iexact Hr
  isplitl [Ht]; · iexact Ht
  isplitl [Hg]; · iexact Hg
  iempintro

theorem step_O1 : iprop(com X K ∗ owing S c ∗ bag X p c (need .O1))
    ⊢ iprop((iprop(owing S c ∗ bag X p c (gain .O1)) -∗ Runs c Kt Q) -∗ Runs c (tO1 p c Kt) Q) := by
  simp only [need, gain, bag, den]
  unfold tO1
  iintro ⟨#HC, HO, Hg, Ho, Hq, Hy, -⟩ Hk
  iapply (run_ldA c (gv p) (inb_at (fitJ p c)) (pos1 p) _ fullShare.right (wE p c).toNat (2 * U p) (gT X p c) (by have := halves p c; omega)
    (by have := halves p c; omega)) $$ Hg
  iintro Hg
  ihave Ho := (show anyh c (ov p) (po p c 1) (pl p 1) ⊢ (anyh c (ov p) (wK p c).toNat (U p) : sProp 𝕄) from .rfl) $$ Ho
  iapply (run_wFA c _ (ov p) (inb_at (fitK p c)) (pos1 p) _ (yv X p c) (writes1 X p c)) $$ Ho
  iintro Ho
  ihave Ho := (show (holds c (ov p) fullShare (wK p c).toNat (U p) (yv X p c) : sProp 𝕄) ⊢ ovPart X p 1 c from .rfl) $$ Ho
  iapply (run_put X K c p 1 (v := wK p c) rfl (places_out p c).2.2.2 _) $$ [Ho Hy Hq]
  · isplitr; · iexact HC
    isplitl [Ho]; · iexact Ho
    isplitl [Hy]; · iexact Hy
    iexact Hq
  iintro Hq
  iapply Hk
  isplitl [HO]; · iexact HO
  isplitl [Hg]; · iexact Hg
  isplitl [Hq]; · iexact Hq
  iempintro

theorem step_A3 (hw : ∀ y ∈ S, 4 < y.2.val) (hS : (p, 5) ∈ S) : iprop(com X K ∗ owing S c ∗ bag X p c (need .A3))
    ⊢ iprop((iprop(owing (S.erase (p, 5)) c ∗ bag X p c (gain .A3)) -∗ Runs c Kt Q) -∗ Runs c (tA3 p c Kt) Q) := by
  simp only [need, gain, bag, den]
  unfold tA3
  iintro ⟨#HC, HO, Hr, Hg, Ht, Hd, -⟩ Hk
  iapply (run_recv X K c p 4 (hs := gE_words p c) (hd := gE_words p c) _ S hw) $$ [HO Hr]
  · isplitr; · iexact HC
    isplitl [HO]; · iexact HO
    iexact Hr
  iintro ⟨HO, Hr, Hl, Hn⟩
  ihave Hn := (Entails.of_eq (landed4 X p c)) $$ Hn
  ihave Hl := (show lent X p 4 c ⊢ (holds c (gv p) fullShare.left (wE p c).toNat (2 * U p) (gT X p c) : sProp 𝕄) from .rfl) $$ Hl
  ihave Hl := (holds_unshare c (gv p) (wE p c).toNat (2 * U p) (gT X p c)) $$ [Hl Hg]
  · isplitl [Hl]; · iexact Hl
    iexact Hg
  ihave Hg := (join_either c (gv p) fullShare (a := (wE p c).toNat) (b := (wC p c).toNat) (o := 0) (k := 2 * U p) (gT X p c) (by have := (halves p c).2; omega)) $$ [Hl Hn]
  · isplitl [Hl]; · iexact Hl
    iexact Hn
  ihave Hg := (holds_share c (gv p) 0 (2 * (2 * U p)) (gT X p c)) $$ Hg
  icases Hg with ⟨Hs, Hg⟩
  ihave Hs := (show (holds c (gv p) fullShare.left 0 (2 * (2 * U p)) (gT X p c) : sProp 𝕄) ⊢ lent X p 5 c from
    Entails.of_eq (by rw [← Nat.mul_assoc]; rfl)) $$ Hs
  ihave Hg := (show (holds c (gv p) fullShare.right 0 (2 * (2 * U p)) (gT X p c) : sProp 𝕄) ⊢ holds c (gv p) fullShare.right 0 (4 * U p) (gT X p c) from
    Entails.of_eq (by rw [← Nat.mul_assoc])) $$ Hg
  iapply (run_send X K c p 5 (hs := (gv_whole p).wordExact) (hd := (g2_whole p).wordExact) rfl Kt S hS) $$ [HO Ht Hs Hd]
  · isplitr; · iexact HC
    isplitl [HO]; · iexact HO
    isplitl [Ht]; · iexact Ht
    isplitl [Hs]; · iexact Hs
    iexact Hd
  iintro ⟨HO, Ht⟩
  iapply Hk
  isplitl [HO]; · iexact HO
  isplitl [Hr]; · iexact Hr
  isplitl [Ht]; · iexact Ht
  isplitl [Hg]; · iexact Hg
  iempintro

theorem step_O2 : iprop(com X K ∗ owing S c ∗ bag X p c (need .O2))
    ⊢ iprop((iprop(owing S c ∗ bag X p c (gain .O2)) -∗ Runs c Kt Q) -∗ Runs c (tO2 p c Kt) Q) := by
  simp only [need, gain, bag, den]
  unfold tO2
  iintro ⟨#HC, HO, Hg, Ho, Hq, Hy, -⟩ Hk
  iapply (run_ldA c (gv p) (inb_at (fitC p c)) (pos2 p) _ fullShare.right 0 (4 * U p) (gT X p c) (Nat.zero_le _)
    (by rw [Nat.zero_add]; exact fitC p c)) $$ Hg
  iintro Hg
  ihave Ho := (show anyh c (ov p) (po p c 2) (pl p 2) ⊢ (anyh c (ov p) (wB p c).toNat (2 * U p) : sProp 𝕄) from .rfl) $$ Ho
  iapply (run_wFA c _ (ov p) (inb_at (fitB p c)) (pos2 p) _ (yv X p c) (writes2 X p c)) $$ Ho
  iintro Ho
  ihave Ho := (show (holds c (ov p) fullShare (wB p c).toNat (2 * U p) (yv X p c) : sProp 𝕄) ⊢ ovPart X p 2 c from .rfl) $$ Ho
  iapply (run_put X K c p 2 (v := wB p c) rfl (places_out p c).2.1 _) $$ [Ho Hy Hq]
  · isplitr; · iexact HC
    isplitl [Ho]; · iexact Ho
    isplitl [Hy]; · iexact Hy
    iexact Hq
  iintro Hq
  iapply Hk
  isplitl [HO]; · iexact HO
  isplitl [Hg]; · iexact Hg
  isplitl [Hq]; · iexact Hq
  iempintro

theorem step_T (hw : ∀ y ∈ S, 5 < y.2.val) : iprop(com X K ∗ owing S c ∗ bag X p c (need .T))
    ⊢ iprop((iprop(owing S c ∗ bag X p c (gain .T)) -∗ Runs c Kt Q) -∗ Runs c (tT p c Kt) Q) := by
  simp only [need, gain, bag, den]
  unfold tT
  iintro ⟨#HC, HO, Hr, Hg, Ho, Hq, Hy, -⟩ Hk
  iapply (run_recv X K c p 5 (hs := (gv_whole p).wordExact) (hd := (g2_whole p).wordExact) _ S hw) $$ [HO Hr]
  · isplitr; · iexact HC
    isplitl [HO]; · iexact HO
    iexact Hr
  iintro ⟨HO, Hr, Hl, Hn⟩
  ihave Hl := (show lent X p 5 c ⊢ (holds c (gv p) fullShare.left 0 (4 * U p) (gT X p c) : sProp 𝕄) from .rfl) $$ Hl
  ihave Hg := (holds_unshare c (gv p) 0 (4 * U p) (gT X p c)) $$ [Hl Hg]
  · isplitl [Hl]; · iexact Hl
    iexact Hg
  ihave Hn := (show landed X p 5 c ⊢ (holds c (g2 p) fullShare 0 (4 * U p) (gT X p (nb (j1 p) c)) : sProp 𝕄) from .rfl) $$ Hn
  iapply (run_ld0 c (g2 p) (inb_00 (Nat.le_refl _)) (pos4 p) _ fullShare (4 * U p) (gT X p (nb (j1 p) c)) (Nat.le_refl _)) $$ Hn
  iintro Hn
  ihave Ho := (show anyh c (ov p) (po p c 3) (pl p 3) ⊢ (anyh c (ov p) (wA p c).toNat (4 * U p) : sProp 𝕄) from .rfl) $$ Ho
  iapply (run_wFA c _ (ov p) (inb_at (fitA p c)) (pos4 p) _ (yv X p c) (writes3 X p c)) $$ Ho
  iintro Ho
  ihave Ho := (show (holds c (ov p) fullShare (wA p c).toNat (4 * U p) (yv X p c) : sProp 𝕄) ⊢ ovPart X p 3 c from .rfl) $$ Ho
  iapply (run_put X K c p 3 (v := wA p c) rfl (places_out p c).1 _) $$ [Ho Hy Hq]
  · isplitr; · iexact HC
    isplitl [Ho]; · iexact Ho
    isplitl [Hy]; · iexact Hy
    iexact Hq
  iintro Hq
  ihave Hn := (show (holds c (g2 p) fullShare 0 (4 * U p) (gT X p (nb (j1 p) c)) : sProp 𝕄) ⊢ landed X p 5 c from .rfl) $$ Hn
  iapply Hk
  isplitl [HO]; · iexact HO
  isplitl [Hr]; · iexact Hr
  isplitl [Hg]; · iexact Hg
  isplitl [Hn]; · iexact Hn
  isplitl [Hq]; · iexact Hq
  iempintro

theorem step_W : iprop(com X K ∗ owing S c ∗ bag X p c (need .W))
    ⊢ iprop((iprop(owing S c ∗ bag X p c (gain .W)) -∗ Runs c Kt Q) -∗ Runs c (tW p c Kt) Q) := by
  simp only [need, gain, bag, den]
  unfold tW
  iintro ⟨#HC, HO, H0, H1, H2, H3, -⟩ Hk
  iapply (run_pwait X K c p 0 _ S) $$ [HO H0]
  · isplitr; · iexact HC
    isplitl [HO]; · iexact HO
    iexact H0
  iintro ⟨HO, H0, Ho0, Hy0⟩
  iapply (run_pwait X K c p 1 _ S) $$ [HO H1]
  · isplitr; · iexact HC
    isplitl [HO]; · iexact HO
    iexact H1
  iintro ⟨HO, H1, Ho1, Hy1⟩
  iapply (run_pwait X K c p 2 _ S) $$ [HO H2]
  · isplitr; · iexact HC
    isplitl [HO]; · iexact HO
    iexact H2
  iintro ⟨HO, H2, Ho2, Hy2⟩
  iapply (run_pwait X K c p 3 _ S) $$ [HO H3]
  · isplitr; · iexact HC
    isplitl [HO]; · iexact HO
    iexact H3
  iintro ⟨HO, H3, Ho3, Hy3⟩
  iapply Hk
  isplitl [HO]; · iexact HO
  isplitl [H0]; · iexact H0
  isplitl [Ho0]; · iexact Ho0
  isplitl [Hy0]; · iexact Hy0
  isplitl [H1]; · iexact H1
  isplitl [Ho1]; · iexact Ho1
  isplitl [Hy1]; · iexact Hy1
  isplitl [H2]; · iexact H2
  isplitl [Ho2]; · iexact Ho2
  isplitl [Hy2]; · iexact Hy2
  isplitl [H3]; · iexact H3
  isplitl [Ho3]; · iexact Ho3
  isplitl [Hy3]; · iexact Hy3
  iempintro

end Cert.AllReduce

end
-- ==== Proof.Run.lean ====
/-
# The whole body

`σ p` counts the stages part `p` has passed. `St σ` is what all parts hold then, `left σ` the exchanges still to be sent.
A list of stages runs if, stage by stage, each part is where the stage finds it and no part owes an exchange the wait
could need (`ok`).
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Progress -/

/-- How many steps a part has behind it before a stage; step 1 is the barrier. -/
def no : Stage → ℕ
  | .X => 0 | .R1 => 2 | .R2 => 3 | .K2 => 4 | .R3 => 5 | .K3 => 6 | .Fin => 7 | .A2 => 8 | .O1 => 9 | .A3 => 10 | .O2 => 11
  | .T => 12 | .W => 13

/-- What a part holds at first. -/
def base : List It :=
  [.lx 0, .tk 0 0, .tk 1 0, .tk 2 0, .tk 3 0, .tk 4 0, .tk 5 0, .lo 0 0, .lo 1 0, .lo 2 0, .lo 3 0, .inP, .xvA,
   .ovA 0, .ovA 1, .ovA 2, .ovA 3, .yA 0, .yA 1, .yA 2, .yA 3, .sA 0, .sA 1, .sA 2, .acA, .gA]

/-- What the barrier adds. -/
def dsts : List It := [.dst 0, .dst 1, .dst 2, .dst 3, .dst 4, .dst 5]

def after (l : List It) (s : Stage) : List It := gain s ++ l.diff (need s)

/-- What a part holds after `n` steps. -/
def items : ℕ → List It
  | 0 => base
  | 1 => after base .X
  | 2 => dsts ++ after base .X
  | n + 3 => after (items (n + 2)) (([Stage.R1, .R2, .K2, .R3, .K3, .Fin, .A2, .O1, .A3, .O2, .T, .W])[n]?.getD .W)

/-- The exchanges a part has sent after `n` steps. -/
def sent (n : ℕ) : ℕ := ([0, 0, 0, 1, 2, 2, 3, 3, 4, 5, 5, 6, 6, 6, 6] : List ℕ)[n]?.getD 6

theorem items_succ (s : Stage) : items (no s + 1) = after (items (no s)) s := by cases s <;> rfl

theorem needs (s : Stage) : (need s ++ (items (no s)).diff (need s)).Perm (items (no s)) := by cases s <;> decide +kernel

theorem sent_none (s : Stage) (h : sends s = none) : sent (no s + 1) = sent (no s) := by
  revert h; cases s <;> decide
theorem sent_some (s : Stage) (i : Fin 6) (h : sends s = some i) : sent (no s) = i.val ∧ sent (no s + 1) = i.val + 1 := by
  revert h; revert i; cases s <;> decide

/-- The exchanges still to be sent. -/
def left (σ : Fin 12 → ℕ) : Finset (Fin 12 × Fin 6) := Finset.univ.filter fun x => sent (σ x.1) ≤ x.2.val

/-- One part further. -/
def push (σ : Fin 12 → ℕ) (s : Stage) (p : Fin 12) : Fin 12 → ℕ := fun q => if q = p then no s + 1 else σ q

theorem push_self (σ : Fin 12 → ℕ) (s : Stage) (p : Fin 12) : push σ s p p = no s + 1 := if_pos rfl
theorem push_ne (σ : Fin 12 → ℕ) (s : Stage) (p : Fin 12) {q : Fin 12} (h : q ≠ p) : push σ s p q = σ q := if_neg h

theorem left_push (σ : Fin 12 → ℕ) (s : Stage) (p : Fin 12) (h : σ p = no s) : left (push σ s p) = pays p (left σ) (sends s) := by
  cases hs : sends s with
  | none =>
    show left (push σ s p) = left σ
    unfold left
    refine Finset.filter_congr fun x _ => ?_
    by_cases hx : x.1 = p
    · rw [hx, push_self, h, sent_none s hs]
    · rw [push_ne _ _ _ hx]
  | some i =>
    obtain ⟨h1, h2⟩ := sent_some s i hs
    show left (push σ s p) = (left σ).erase (p, i)
    ext ⟨q, k⟩
    simp only [left, Finset.mem_filter, Finset.mem_univ, _root_.true_and, Finset.mem_erase, ne_eq, Prod.mk.injEq]
    by_cases hx : q = p
    · subst hx
      rw [push_self, h, h1, h2]
      simp only [_root_.true_and, Fin.ext_iff]
      omega
    · rw [push_ne _ _ _ hx]
      simp only [hx, _root_.false_and, not_false_eq_true, _root_.true_and]

theorem mem_left (σ : Fin 12 → ℕ) (s : Stage) (p : Fin 12) (h : σ p = no s) (i : Fin 6) (hs : sends s = some i) : (p, i) ∈ left σ := by
  simp only [left, Finset.mem_filter, Finset.mem_univ, _root_.true_and, h, (sent_some s i hs).1, le_refl]

theorem below_left (σ : Fin 12 → ℕ) (s : Stage) (h : ∀ q, waits s ≤ sent (σ q)) : ∀ y ∈ left σ, waits s ≤ y.2.val := by
  intro y hy
  simp only [left, Finset.mem_filter, Finset.mem_univ, _root_.true_and] at hy
  exact (h y.1).trans hy

/-- The check of a list of stages. -/
def ok : List (Stage × Fin 12) → (Fin 12 → ℕ) → Bool
  | [], _ => true
  | (s, p) :: l, σ => decide (σ p = no s) && decide (∀ q, waits s ≤ sent (σ q)) && ok l (push σ s p)

/-- Where it ends. -/
def fin : List (Stage × Fin 12) → (Fin 12 → ℕ) → Fin 12 → ℕ
  | [], σ => σ
  | (s, p) :: l, σ => fin l (push σ s p)

/-! ## Bags -/

section Bags
variable (X : Dev nD → Rows F .f32) (K : Dev nD × Cl → ℕ) (p : Fin 12) (c : Dev nD)

theorem bag_append (l l' : List It) : (bag X p c (l ++ l') : sProp 𝕄) = iprop(bag X p c l ∗ bag X p c l') := by
  induction l with
  | nil =>
    refine equal_of ?_ ?_
    · show (bag X p c l' : sProp 𝕄) ⊢ iprop(emp ∗ bag X p c l')
      iintro H
      isplitr; · iempintro
      iexact H
    · show (iprop(emp ∗ bag X p c l') : sProp 𝕄) ⊢ bag X p c l'
      iintro ⟨-, H⟩
      iexact H
  | cons a l ih =>
    show (iprop(den X p c a ∗ bag X p c (l ++ l')) : sProp 𝕄) = iprop((den X p c a ∗ bag X p c l) ∗ bag X p c l')
    rw [ih]
    refine equal_of ?_ ?_
    · iintro ⟨H, H', H''⟩
      isplitr [H'']
      · isplitl [H] <;> iassumption
      iexact H''
    · iintro ⟨⟨H, H'⟩, H''⟩
      isplitl [H]; · iexact H
      isplitl [H'] <;> iassumption

theorem bag_perm {l l' : List It} (h : l.Perm l') : (bag X p c l : sProp 𝕄) = bag X p c l' := by
  induction h with
  | nil => rfl
  | cons a _ ih => show (iprop(den X p c a ∗ bag X p c _) : sProp 𝕄) = iprop(den X p c a ∗ bag X p c _); rw [ih]
  | swap a b l =>
    refine equal_of ?_ ?_
    · show (iprop(den X p c b ∗ den X p c a ∗ bag X p c l) : sProp 𝕄) ⊢ iprop(den X p c a ∗ den X p c b ∗ bag X p c l)
      iintro ⟨H, H', H''⟩
      isplitl [H']; · iexact H'
      isplitl [H] <;> iassumption
    · show (iprop(den X p c a ∗ den X p c b ∗ bag X p c l) : sProp 𝕄) ⊢ iprop(den X p c b ∗ den X p c a ∗ bag X p c l)
      iintro ⟨H, H', H''⟩
      isplitl [H']; · iexact H'
      isplitl [H] <;> iassumption
  | trans _ _ ih ih' => exact ih.trans ih'

/-- What all parts hold. -/
def St (σ : Fin 12 → ℕ) : sProp 𝕄 := bigSep Finset.univ fun p => bag X p c (items (σ p))

variable {Q : PUnit → sProp (MT nD τ sig Unit (Elt F) ℕ UU ℕ)}

/-- Every stage after the barrier. -/
theorem step (s : Stage) (hX : s ≠ .X) (Kt : PG F) (S : Finset (Fin 12 × Fin 6)) (hw : ∀ y ∈ S, waits s ≤ y.2.val)
    (hS : ∀ i, sends s = some i → (p, i) ∈ S) :
    iprop(com X K ∗ owing S c ∗ bag X p c (need s))
      ⊢ iprop((iprop(owing (pays p S (sends s)) c ∗ bag X p c (gain s)) -∗ Runs c Kt Q) -∗ Runs c (stage s p c Kt) Q) := by
  cases s with
  | X => exact absurd rfl hX
  | R1 => exact step_R1 X K p c Kt S (hS 0 rfl)
  | R2 => exact step_R2 X K p c Kt S hw (hS 1 rfl)
  | K2 => exact step_K2 X K p c Kt S
  | R3 => exact step_R3 X K p c Kt S hw (hS 2 rfl)
  | K3 => exact step_K3 X K p c Kt S
  | Fin => exact step_Fin X K p c Kt S hw (hS 3 rfl)
  | A2 => exact step_A2 X K p c Kt S hw (hS 4 rfl)
  | O1 => exact step_O1 X K p c Kt S
  | A3 => exact step_A3 X K p c Kt S hw (hS 5 rfl)
  | O2 => exact step_O2 X K p c Kt S
  | T => exact step_T X K p c Kt S hw
  | W => exact step_W X K p c Kt S

/-- A stage of one part, among all parts. -/
theorem lift (s : Stage) (σ : Fin 12 → ℕ) (hσ : σ p = no s) (Kt : PG F) (A B : sProp 𝕄)
    (h : iprop(com X K ∗ A ∗ bag X p c (need s)) ⊢ iprop((iprop(B ∗ bag X p c (gain s)) -∗ Runs c Kt Q) -∗ Runs c (stage s p c Kt) Q)) :
    iprop(com X K ∗ A ∗ St X c σ) ⊢ iprop((iprop(B ∗ St X c (push σ s p)) -∗ Runs c Kt Q) -∗ Runs c (stage s p c Kt) Q) := by
  have e1 : (bag X p c (items (σ p)) : sProp 𝕄) = iprop(bag X p c (need s) ∗ bag X p c ((items (no s)).diff (need s))) := by
    rw [hσ, ← bag_append]; exact (bag_perm X p c (needs s)).symm
  have e2 : (bag X p c (items (push σ s p p)) : sProp 𝕄) = iprop(bag X p c (gain s) ∗ bag X p c ((items (no s)).diff (need s))) := by
    rw [← bag_append, push_self, items_succ]; rfl
  unfold St
  iintro ⟨#HC, HA, HS⟩ Hk
  ihave HS := (bigSep_univ_update (Φ := fun q => (bag X q c (items (σ q)) : sProp 𝕄)) (Ψ := fun q => bag X q c (items (push σ s p q))) p
    (fun q hq => by rw [push_ne _ _ _ hq])) $$ HS
  icases HS with ⟨Hp, Hback⟩
  ihave Hp := (Entails.of_eq e1) $$ Hp
  icases Hp with ⟨Hn, Hr⟩
  iapply h $$ [HA Hn]
  · isplitr; · iexact HC
    isplitl [HA]; · iexact HA
    iexact Hn
  iintro ⟨HB, Hg⟩
  iapply Hk
  isplitl [HB]; · iexact HB
  iapply Hback
  iapply (Entails.of_eq e2.symm)
  isplitl [Hg]; · iexact Hg
  iexact Hr

/-- A list of stages, each of which runs. -/
theorem runs_list (A : Finset (Fin 12 × Fin 6) → sProp 𝕄) (Kt : PG F) : ∀ (l : List (Stage × Fin 12)) (σ : Fin 12 → ℕ) (hok : ok l σ = true)
    (hstep : ∀ s p, (s, p) ∈ l → ∀ (S : Finset (Fin 12 × Fin 6)) (hw : ∀ y ∈ S, waits s ≤ y.2.val) (hS : ∀ i, sends s = some i → (p, i) ∈ S) (Kt : PG F),
      iprop(com X K ∗ A S ∗ bag X p c (need s))
      ⊢ iprop((iprop(A (pays p S (sends s)) ∗ bag X p c (gain s)) -∗ Runs c Kt Q) -∗ Runs c (stage s p c Kt) Q)),
    iprop(com X K ∗ A (left σ) ∗ St X c σ)
      ⊢ iprop((iprop(A (left (fin l σ)) ∗ St X c (fin l σ)) -∗ Runs c Kt Q) -∗ Runs c (runs c l Kt) Q)
  | [], σ, _, _ => by
    show iprop(com X K ∗ A (left σ) ∗ St X c σ) ⊢ iprop((iprop(A (left σ) ∗ St X c σ) -∗ Runs c Kt Q) -∗ Runs c Kt Q)
    iintro ⟨-, H, H'⟩ Hk
    iapply Hk
    isplitl [H]; · iexact H
    iexact H'
  | (s, p) :: l, σ, hok, hstep => by
    simp only [ok, Bool.and_eq_true, decide_eq_true_eq] at hok
    obtain ⟨⟨h1, h2⟩, h3⟩ := hok
    have hl := lift X K p c (Q := Q) s σ h1 (runs c l Kt) (A (left σ)) (A (left (push σ s p)))
      (by rw [left_push σ s p h1]
          exact hstep s p List.mem_cons_self (left σ) (below_left σ s h2) (mem_left σ s p h1) _)
    have ih := runs_list A Kt l (push σ s p) h3 fun s' p' h => hstep s' p' (List.mem_cons_of_mem _ h)
    show _ ⊢ iprop((iprop(A (left (fin l (push σ s p))) ∗ St X c (fin l (push σ s p))) -∗ Runs c Kt Q) -∗ Runs c (stage s p c (runs c l Kt)) Q)
    iintro ⟨#HC, H, H'⟩ Hk
    iapply hl $$ [H H']
    · isplitr; · iexact HC
      isplitl [H] <;> iassumption
    iintro ⟨H, H'⟩
    iapply ih $$ [H H']
    · isplitr; · iexact HC
      isplitl [H] <;> iassumption
    iexact Hk

theorem ok₀ : ok sched₀ (fun _ => 0) = true := by decide +kernel
theorem fin₀ : fin sched₀ (fun _ => 0) = fun _ => 1 := funext (by decide +kernel)
theorem ok₁ : ok sched₁ (fun _ => 2) = true := by decide +kernel
theorem fin₁ : fin sched₁ (fun _ => 2) = fun _ => 14 := funext (by decide +kernel)
theorem only_X : ∀ x ∈ sched₀, x.1 = .X := by decide +kernel
theorem no_X : ∀ x ∈ sched₁, x.1 ≠ .X := by decide +kernel
theorem left_2 : left (fun _ => 2) = Finset.univ := by decide +kernel
theorem left_14 : left (fun _ => 14) = ∅ := by decide +kernel

/-- The input copies are started. -/
theorem run_first (Kt : PG F) (A : sProp 𝕄) :
    iprop(com X K ∗ A ∗ St X c fun _ => 0) ⊢ iprop((iprop(A ∗ St X c fun _ => 1) -∗ Runs c Kt Q) -∗ Runs c (runs c sched₀ Kt) Q) := by
  have h := runs_list X K c (Q := Q) (fun _ => A) Kt sched₀ (fun _ => 0) ok₀ fun s p hm S hw hS Kt => by
    obtain rfl : s = .X := only_X _ hm
    exact step_X X K p c Kt A
  rwa [fin₀] at h

/-- All that follows the barrier. -/
theorem run_rest (Kt : PG F) :
    iprop(com X K ∗ owing Finset.univ c ∗ St X c fun _ => 2)
      ⊢ iprop((iprop(owing ∅ c ∗ St X c fun _ => 14) -∗ Runs c Kt Q) -∗ Runs c (runs c sched₁ Kt) Q) := by
  have h := runs_list X K c (Q := Q) (fun S => owing S c) Kt sched₁ (fun _ => 2) ok₁ fun s p hm S hw hS Kt =>
    step X K p c s (no_X _ hm) Kt S hw hS
  rwa [fin₁, left_2, left_14] at h

end Bags

end Cert.AllReduce

end
-- ==== Proof.Whole.lean ====
/-
# The buffers of a part, whole and in pieces

What a part starts from and ends with: its eleven buffers, its tokens, its rows of the input and of the result.
-/
module

public import proofs.«01_k».proof.Proof.Run

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Halving
variable (c : Dev nD) {sp : Space} {n : ℕ} {e : EltTy} (mr : Memref sig .tc sp (sh n) e) {a b o k m : ℕ}

/-- A run of rows into two of one size, the first named lying on either side. -/
theorem anyh_halve (h : a = o ∧ b = o + k ∨ b = o ∧ a = o + k) (hm : m = 2 * k) :
    (anyh c mr o m : sProp 𝕄) ⊢ iprop(anyh c mr a k ∗ anyh c mr b k) := by
  subst hm
  rw [Nat.two_mul]
  rcases h with ⟨rfl, rfl⟩ | ⟨rfl, rfl⟩
  · exact anyh_split c mr a k k
  · refine (anyh_split c mr b k k).trans ?_
    show iprop(anyh c mr b k ∗ anyh c mr (b + k) k) ⊢ iprop(anyh c mr (b + k) k ∗ anyh c mr b k)
    iintro ⟨H, H'⟩
    isplitl [H'] <;> iassumption

/-- And back, with contents. -/
theorem holds_unite (T : Rows F e) (h : a = o ∧ b = o + k ∨ b = o ∧ a = o + k) (hm : m = 2 * k) :
    (iprop(holds c mr fullShare a k T ∗ holds c mr fullShare b k T) : sProp 𝕄) ⊢ holds c mr fullShare o m T := by
  subst hm
  rw [Nat.two_mul]
  rcases h with ⟨rfl, rfl⟩ | ⟨rfl, rfl⟩
  · exact holds_join c mr fullShare a k k T
  · refine BI.Entails.trans ?_ (holds_join c mr fullShare b k k T)
    show iprop(holds c mr fullShare (b + k) k T ∗ holds c mr fullShare b k T) ⊢ iprop(holds c mr fullShare b k T ∗ holds c mr fullShare (b + k) k T)
    iintro ⟨H, H'⟩
    isplitl [H'] <;> iassumption

theorem anyh_two (hm : m = o + k) (hl : b = 2 * k) : (iprop(anyh c mr o k ∗ anyh c mr m k) : sProp 𝕄) ⊢ anyh c mr o b := by
  subst hm hl
  rw [Nat.two_mul]
  exact anyh_join c mr o k k

end Halving

section Part
variable (X : Dev nD → Rows F .f32) (p : Fin 12) (c : Dev nD)

theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_3 (Φ : Fin 3 → sProp 𝕄) : bigSep Finset.univ Φ = iprop(Φ 0 ∗ Φ 1 ∗ Φ 2) :=
  bigSep_univ_eq_bigSepL [0, 1, 2] (by decide) (by decide) Φ

/-- A run of eight eighths in the four pieces of the result. -/
theorem cut4 {sp : Space} {n : ℕ} {e : EltTy} (mr : Memref sig .tc sp (sh n) e) (o : ℕ) :
    (anyh c mr o (8 * U p) : sProp 𝕄) ⊢ bigSep Finset.univ fun k : Fin 4 => anyh c mr (o + po p c k) (pl p k) := by
  have h := pieces p c
  rw [bigSep_4]
  show (anyh c mr o (8 * U p) : sProp 𝕄) ⊢ iprop(anyh c mr (o + (wH p c).toNat) (U p) ∗ anyh c mr (o + (wK p c).toNat) (U p)
    ∗ anyh c mr (o + (wB p c).toNat) (2 * U p) ∗ anyh c mr (o + (wA p c).toNat) (4 * U p))
  iintro H
  ihave H := (anyh_halve (F := F) c mr (a := o + b1 p c * (4 * U p)) (b := o + (wA p c).toNat) (k := 4 * U p) (by omega) (by omega)) $$ H
  icases H with ⟨H, HA⟩
  ihave H := (anyh_halve (F := F) c mr (a := o + (wDd p c).toNat) (b := o + (wB p c).toNat) (k := 2 * U p) (by omega) (by omega)) $$ H
  icases H with ⟨H, HB⟩
  ihave H := (anyh_halve (F := F) c mr (a := o + (wH p c).toNat) (b := o + (wK p c).toNat) (k := U p) (by omega) (by omega)) $$ H
  icases H with ⟨HH, HK⟩
  isplitl [HH]; · iexact HH
  isplitl [HK]; · iexact HK
  isplitl [HB] <;> iassumption

/-- And back, with contents. -/
theorem paste4 {sp : Space} {n : ℕ} {e : EltTy} (mr : Memref sig .tc sp (sh n) e) (o : ℕ) (T : Rows F e) :
    (bigSep Finset.univ fun k : Fin 4 => holds c mr fullShare (o + po p c k) (pl p k) T : sProp 𝕄) ⊢ holds c mr fullShare o (8 * U p) T := by
  have h := pieces p c
  rw [bigSep_4]
  show (iprop(holds c mr fullShare (o + (wH p c).toNat) (U p) T ∗ holds c mr fullShare (o + (wK p c).toNat) (U p) T
    ∗ holds c mr fullShare (o + (wB p c).toNat) (2 * U p) T ∗ holds c mr fullShare (o + (wA p c).toNat) (4 * U p) T) : sProp 𝕄) ⊢ _
  iintro ⟨HH, HK, HB, HA⟩
  ihave H := (holds_unite c mr T (a := o + (wH p c).toNat) (b := o + (wK p c).toNat) (o := o + (wDd p c).toNat) (k := U p) (m := 2 * U p) (by omega) rfl) $$ [HH HK]
  · isplitl [HH] <;> iassumption
  ihave H := (holds_unite c mr T (a := o + (wDd p c).toNat) (b := o + (wB p c).toNat) (o := o + b1 p c * (4 * U p)) (k := 2 * U p) (m := 4 * U p) (by omega) (by omega)) $$ [H HB]
  · isplitl [H] <;> iassumption
  iapply (holds_unite c mr T (a := o + b1 p c * (4 * U p)) (b := o + (wA p c).toNat) (o := o) (k := 4 * U p) (m := 8 * U p) (by omega) (by omega))
  isplitl [H] <;> iassumption

/-- The buffers of a part. -/
def bufs : sProp 𝕄 :=
  iprop(anyh c (xv p) 0 (8 * U p) ∗ anyh c (ov p) 0 (8 * U p) ∗ anyh c (s1 p) 0 (4 * U p) ∗ anyh c (r1 p) 0 (4 * U p)
    ∗ anyh c (ac p) 0 (2 * U p) ∗ anyh c (s2 p) 0 (2 * U p) ∗ anyh c (r2 p) 0 (2 * U p) ∗ anyh c (s3 p) 0 (U p) ∗ anyh c (r3 p) 0 (U p)
    ∗ anyh c (gv p) 0 (4 * U p) ∗ anyh c (g2 p) 0 (4 * U p))

/-- Its tokens, before and after. -/
def toks (a : ℕ) : sProp 𝕄 :=
  iprop(lcl c (.inr (.inr (.inl p))) a ∗ (bigSep Finset.univ fun i => tkt c p i a) ∗ bigSep Finset.univ fun k => lcl c (.inr (.inr (.inr (p, k)))) a)

/-- This device's landing places. -/
def lands : sProp 𝕄 := bigSep Finset.univ fun i => dest p i (peer p i c)

theorem dest_own (i : Fin 6) : (dest p i (peer p i c) : sProp 𝕄) = anyh c (dstM p i) (so p (peer p i c) i) (len p i) := by
  unfold dest; rw [peer_peer]

theorem lands_eq : (lands p c : sProp 𝕄) = iprop(anyh c (r1 p) 0 (4 * U p) ∗ anyh c (r2 p) 0 (2 * U p) ∗ anyh c (r3 p) 0 (U p)
    ∗ anyh c (gv p) (wJ p c).toNat (U p) ∗ anyh c (gv p) (wC p c).toNat (2 * U p) ∗ anyh c (g2 p) 0 (4 * U p)) := by
  unfold lands
  rw [bigSep_6]
  simp only [dest_own]
  rw [show so p (peer p 3 c) 3 = (wJ p c).toNat from (gather p c).1, show so p (peer p 4 c) 4 = (wC p c).toNat from (gather p c).2.1]
  rfl

/-- What a part starts with. -/
theorem part_in : (iprop(bufs p c ∗ toks p c 0 ∗ inPart X p c ∗ anyh (n := 4096) c yout (offs p) (8 * U p)) : sProp 𝕄)
    ⊢ iprop(lands p c ∗ bag X p c base) := by
  have h := halves p c
  rw [lands_eq]
  unfold toks bufs
  rw [bigSep_6, bigSep_4]
  simp only [base, bag, den]
  iintro ⟨⟨Hx, Ho, Hs1, Hr1, Ha, Hs2, Hr2, Hs3, Hr3, Hg, Hg2⟩, ⟨Htx, ⟨Ht0, Ht1, Ht2, Ht3, Ht4, Ht5⟩, Hl0, Hl1, Hl2, Hl3⟩, Hin, Hy⟩
  ihave Ho := (cut4 p c (ov p) 0) $$ Ho
  ihave Hy := (cut4 p c (n := 4096) yout (offs p)) $$ Hy
  ihave Ho := (Entails.of_eq (bigSep_4 (F := F) _)) $$ Ho
  ihave Hy := (Entails.of_eq (bigSep_4 (F := F) _)) $$ Hy
  simp only [Nat.zero_add]
  icases Ho with ⟨Ho0, Ho1, Ho2, Ho3⟩
  icases Hy with ⟨Hy0, Hy1, Hy2, Hy3⟩
  ihave Hg := (anyh_halve (F := F) c (gv p) (a := (wE p c).toNat) (b := (wC p c).toNat) (k := 2 * U p) (by omega) (by omega)) $$ Hg
  icases Hg with ⟨Hg, HC⟩
  ihave Hg := (anyh_halve (F := F) c (gv p) (a := (wI p c).toNat) (b := (wJ p c).toNat) (k := U p) (by omega) (by omega)) $$ Hg
  icases Hg with ⟨HI, HJ⟩
  isplitl [Hr1 Hr2 Hr3 HJ HC Hg2]
  · isplitl [Hr1]; · iexact Hr1
    isplitl [Hr2]; · iexact Hr2
    isplitl [Hr3]; · iexact Hr3
    isplitl [HJ]; · iexact HJ
    isplitl [HC]; · iexact HC
    iexact Hg2
  isplitl [Htx]; · iexact Htx
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hl0]; · iexact Hl0
  isplitl [Hl1]; · iexact Hl1
  isplitl [Hl2]; · iexact Hl2
  isplitl [Hl3]; · iexact Hl3
  isplitl [Hin]; · iexact Hin
  isplitl [Hx]; · iexact Hx
  isplitl [Ho0]; · iexact Ho0
  isplitl [Ho1]; · iexact Ho1
  isplitl [Ho2]; · iexact Ho2
  isplitl [Ho3]; · iexact Ho3
  isplitl [Hy0]; · iexact Hy0
  isplitl [Hy1]; · iexact Hy1
  isplitl [Hy2]; · iexact Hy2
  isplitl [Hy3]; · iexact Hy3
  isplitl [Hs1]; · iexact Hs1
  isplitl [Hs2]; · iexact Hs2
  isplitl [Hs3]; · iexact Hs3
  isplitl [Ha]; · iexact Ha
  isplitl [HI]; · iexact HI
  iempintro

theorem items_end : (items 14).Perm [.lx 2, .tk 0 2, .tk 1 2, .tk 2 2, .tk 3 2, .tk 4 2, .tk 5 2, .lo 0 2, .lo 1 2, .lo 2 2, .lo 3 2, .inP, .xvH,
   .ovH 0, .ovH 1, .ovH 2, .ovH 3, .yH 0, .yH 1, .yH 2, .yH 3, .lnt 0, .lnt 1, .lnt 2, .lnd 0, .lnd 1, .lnd 2, .lnd 5, .acK, .gH] := by
  decide +kernel

/-- What a part ends with. -/
theorem part_out : (bag X p c (items 14) : sProp 𝕄)
    ⊢ iprop(bufs p c ∗ toks p c 2 ∗ inPart X p c ∗ holds (n := 4096) c yout fullShare (offs p) (8 * U p) (yo X p c)) := by
  rw [bag_perm X p c items_end]
  unfold toks bufs
  rw [bigSep_6, bigSep_4]
  simp only [bag, den]
  unfold lent landed ovPart outPart
  iintro ⟨Htx, Ht0, Ht1, Ht2, Ht3, Ht4, Ht5, Hl0, Hl1, Hl2, Hl3, Hin, Hx, Ho0, Ho1, Ho2, Ho3, Hy0, Hy1, Hy2, Hy3, Hs1, Hs2, Hs3,
    Hr1, Hr2, Hr3, Hg2, ⟨Ha, Ha'⟩, Hg, -⟩
  isplitl [Hx Ho0 Ho1 Ho2 Ho3 Hs1 Hs2 Hs3 Hr1 Hr2 Hr3 Hg2 Ha Ha' Hg]
  · isplitl [Hx]; · iapply (holds_any c (xv p) 0 (8 * U p) (xw X p c)); iexact Hx
    isplitl [Ho0 Ho1 Ho2 Ho3]
    · iapply (holds_any c (ov p) 0 (8 * U p) (yv X p c))
      iapply (paste4 p c (ov p) 0 (yv X p c))
      iapply (Entails.of_eq (bigSep_4 (F := F) _).symm)
      simp only [Nat.zero_add]
      isplitl [Ho0]; · iexact Ho0
      isplitl [Ho1]; · iexact Ho1
      isplitl [Ho2]; · iexact Ho2
      iexact Ho3
    isplitl [Hs1]; · iapply (holds_any c (s1 p) 0 (4 * U p) (srcT p X c 0)); iexact Hs1
    isplitl [Hr1]; · iapply (holds_any c (r1 p) 0 (4 * U p) (srcT p X (peer p 0 c) 0)); iexact Hr1
    isplitl [Ha Ha']
    · iapply (anyh_two (F := F) c (ac p) (o := 0) (m := U p) (k := U p) (b := 2 * U p) (by omega) rfl)
      isplitl [Ha]; · iapply (holds_any c (ac p) 0 (U p) (acU X p c)); iexact Ha
      iexact Ha'
    isplitl [Hs2]; · iapply (holds_any c (s2 p) 0 (2 * U p) (srcT p X c 1)); iexact Hs2
    isplitl [Hr2]; · iapply (holds_any c (r2 p) 0 (2 * U p) (srcT p X (peer p 1 c) 1)); iexact Hr2
    isplitl [Hs3]; · iapply (holds_any c (s3 p) 0 (U p) (srcT p X c 2)); iexact Hs3
    isplitl [Hr3]; · iapply (holds_any c (r3 p) 0 (U p) (srcT p X (peer p 2 c) 2)); iexact Hr3
    isplitl [Hg]; · iapply (holds_any c (gv p) 0 (4 * U p) (gT X p c)); iexact Hg
    iapply (holds_any c (g2 p) 0 (4 * U p) (srcT p X (peer p 5 c) 5)); iexact Hg2
  isplitl [Htx Ht0 Ht1 Ht2 Ht3 Ht4 Ht5 Hl0 Hl1 Hl2 Hl3]
  · isplitl [Htx]; · iexact Htx
    isplitl [Ht0 Ht1 Ht2 Ht3 Ht4 Ht5]
    · isplitl [Ht0]; · iexact Ht0
      isplitl [Ht1]; · iexact Ht1
      isplitl [Ht2]; · iexact Ht2
      isplitl [Ht3]; · iexact Ht3
      isplitl [Ht4] <;> iassumption
    isplitl [Hl0]; · iexact Hl0
    isplitl [Hl1]; · iexact Hl1
    isplitl [Hl2] <;> iassumption
  isplitl [Hin]; · iexact Hin
  iapply (paste4 p c (n := 4096) yout (offs p) (yo X p c))
  iapply (Entails.of_eq (bigSep_4 (F := F) _).symm)
  isplitl [Hy0]; · iexact Hy0
  isplitl [Hy1]; · iexact Hy1
  isplitl [Hy2]; · iexact Hy2
  iexact Hy3

end Part

end Cert.AllReduce

end
-- ==== Proof.Body.lean ====
/-
# The body of one device

The barrier trades landing places; around it the stages run; at the end every cell closes.
-/
module

public import proofs.«01_k».proof.Proof.Whole

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- All cells of a device, kind by kind. -/
theorem over_cells (Φ : Cl → sProp 𝕄) : bigSep Finset.univ Φ = iprop(Φ kB ∗ (bigSep Finset.univ fun p => bigSep Finset.univ fun i => Φ (kS p i))
    ∗ (bigSep Finset.univ fun p => bigSep Finset.univ fun i => Φ (kR p i)) ∗ (bigSep Finset.univ fun p => Φ (kX p))
    ∗ bigSep Finset.univ fun p => bigSep Finset.univ fun k => Φ (kO p k)) := by
  rw [bigSep_univ_sum, bigSep_univ_sum, bigSep_univ_sum, bigSep_univ_sum, bigSep_univ_prod, bigSep_univ_prod, bigSep_univ_prod,
    show (Finset.univ : Finset Unit) = {()} from rfl, bigSep_singleton]
  rfl

/-- Parts and exchanges, by direction. -/
theorem by_dir (Φ : Fin 12 × Fin 6 → sProp 𝕄) : (bigSep Finset.univ fun p => bigSep Finset.univ fun i => Φ (p, i))
    = bigSep Finset.univ fun j : Fin 3 => bigSep (Finset.univ.filter fun x : Fin 12 × Fin 6 => dir x.1 x.2 = j) Φ := by
  rw [← bigSep_univ_prod Φ, bigSep_fiberwise Finset.univ (fun x : Fin 12 × Fin 6 => dir x.1 x.2) Φ,
    show Finset.univ.image (fun x : Fin 12 × Fin 6 => dir x.1 x.2) = Finset.univ by decide +kernel]

section Device
variable (X : Dev nD → Rows F .f32) (K : Dev nD × Cl → ℕ) (c : Dev nD) {Q : PUnit → sProp (MT nD τ sig Unit (Elt F) ℕ UU ℕ)}

/-- The tokens of the signals a device sends. -/
def barToks : sProp 𝕄 := bigSep Finset.univ fun j : Fin 3 => dutyTok ER (cell (nb j c) kB) 0 j

theorem lands_bar : (bigSep Finset.univ fun p => lands p c) = (bigSep Finset.univ fun j : Fin 3 => barPay j (nb j c) : sProp 𝕄) := by
  unfold lands
  rw [by_dir fun x => dest x.1 x.2 (peer x.1 x.2 c)]
  refine bigSep_congr fun j _ => ?_
  unfold barPay
  refine bigSep_congr fun x hx => ?_
  rw [← (Finset.mem_filter.mp hx).2]

theorem bar_dests : (bigSep Finset.univ fun j : Fin 3 => barPay j c : sProp 𝕄) = bigSep Finset.univ fun p => bag X p c dsts := by
  have h : ∀ p : Fin 12, (bag X p c dsts : sProp 𝕄) = bigSep Finset.univ fun i => dest p i c := fun p => by
    rw [bigSep_6]
    simp only [dsts, bag, den]
    refine equal_of ?_ ?_
    · iintro ⟨H0, H1, H2, H3, H4, H5, -⟩
      isplitl [H0]; · iexact H0
      isplitl [H1]; · iexact H1
      isplitl [H2]; · iexact H2
      isplitl [H3]; · iexact H3
      isplitl [H4] <;> iassumption
    · iintro ⟨H0, H1, H2, H3, H4, H5⟩
      isplitl [H0]; · iexact H0
      isplitl [H1]; · iexact H1
      isplitl [H2]; · iexact H2
      isplitl [H3]; · iexact H3
      isplitl [H4]; · iexact H4
      isplitl [H5]; · iexact H5
      iempintro
  rw [bigSep_congr fun p _ => h p, by_dir fun x => dest x.1 x.2 c]
  rfl

/-- One signal. -/
theorem run_sig (j : Fin 3) (D : CellTallies nD τ sig Unit) (W : Waits sig Unit) (Kt : PG F) :
    iprop(com X K ∗ owes (c : Thread nD τ) (D + tallyAt (cell (nb j c) kB) () 1) W ∗ dutyTok ER (cell (nb j c) kB) 0 j ∗ barPay j (nb j c))
      ⊢ iprop((owes (c : Thread nD τ) D W -∗ Runs c Kt Q) -∗ Runs c (.op (.semSignal (Dev.tc (nb j c)) barS 1) fun _ => Kt) Q) := by
  iintro ⟨#HC, HO, Ht, Hp⟩ Hk
  iapply (Rounds.wp_signal 𝒱₀ ER (proto X) (c : Thread nD τ) none (dst := (nb j c : Thread nD τ)) (κ := K (nb j c, kB)) (r := 0)
      (d := j) (by rw [show (((nb j c : Dev nD) : Thread nD τ), SemLoc.reg barS) = cell (nb j c) kB from rfl, duties_0]; exact Finset.mem_univ _)
      (amount_0 X (nb j c) kB j) () D rfl) $$ [HO Ht Hp]
  · isplitr; · iapply (com_inv X K (nb j c) kB); iexact HC
    isplitl [HO]; · iexact HO
    isplitl [Ht]; · iexact Ht
    isplitl [Hp]; · iapply (show barPay j (nb j c) ⊢ (proto X).payload (((nb j c : Dev nD) : Thread nD τ), SemLoc.reg barS) 0 j from
        Entails.of_eq (payload_0 X (nb j c) kB j).symm); iexact Hp
    iapply (com_reached X K (nb j c) kB); iexact HC
  iexact Hk

/-- The barrier. -/
theorem run_bar (Kt : PG F) (W : Waits sig Unit) :
    iprop(com X K ∗ owes (c : Thread nD τ) (O₀ c) W ∗ (bigSep Finset.univ fun p => lands p c) ∗ barToks c
        ∗ cred (tallyAt (cell c kB) () 3) ∗ atPos ER (cell c kB) 0 ∅ 0)
      ⊢ iprop((iprop(owing Finset.univ c ∗ (bigSep Finset.univ fun p => bag X p c dsts) ∗ atPos ER (cell c kB) 1 ∅ 0) -∗ Runs c Kt Q)
        -∗ Runs c (tBar c Kt) Q) := by
  have hO : O₀ c = debt Finset.univ c + tallyAt (cell (nb 2 c) kB) () 1 + tallyAt (cell (nb 1 c) kB) () 1 + tallyAt (cell (nb 0 c) kB) () 1 := by
    unfold O₀ barDebt
    rw [Fin.sum_univ_three]
    ac_rfl
  rw [lands_bar, hO, ← bar_dests]
  unfold barToks tBar
  rw [bigSep_3, bigSep_3]
  iintro ⟨#HC, HO, ⟨Hp0, Hp1, Hp2⟩, ⟨Ht0, Ht1, Ht2⟩, Hc, Hat⟩ Hk
  iapply (run_sig X K c 0 _ W _) $$ [HO Ht0 Hp0]
  · isplitr; · iexact HC
    isplitl [HO]; · iexact HO
    isplitl [Ht0] <;> iassumption
  iintro HO
  iapply (run_sig X K c 1 _ W _) $$ [HO Ht1 Hp1]
  · isplitr; · iexact HC
    isplitl [HO]; · iexact HO
    isplitl [Ht1] <;> iassumption
  iintro HO
  iapply (run_sig X K c 2 _ W _) $$ [HO Ht2 Hp2]
  · isplitr; · iexact HC
    isplitl [HO]; · iexact HO
    isplitl [Ht2] <;> iassumption
  iintro HO
  iapply (Rounds.wp_wait_rest_token 𝒱₀ ER (proto X) (c : Thread nD τ) none (κ := K (c, kB))
      (wpE_semWait_eq 𝒱₀ (c : Thread nD τ) none Set.univ) (Set.mem_univ _) () (O := debt Finset.univ c) (W := W) (R := 0) (m := 0) (T := ∅)
      (by rw [Nat.zero_add, show (((c : Thread nD τ), SemLoc.reg barS) : GSem nD τ sig) = cell c kB from rfl, expect_bar])) $$ [HO Hc Hat]
  · isplitr; · iapply (com_inv X K c kB); iexact HC
    isplitl [Hc]; · iexact Hc
    isplitl [HO]; · iexact HO
    isplitr
    · iapply (may_wait c kB Finset.univ fun x _ => by show 1 < 2 + x.2.val; omega); iapply (com_lev X K); iexact HC
    iexact Hat
  rw [show (((c : Thread nD τ), SemLoc.reg barS) : GSem nD τ sig) = cell c kB from rfl]
  iintro ⟨HO, Hat, -, Hpay⟩
  ihave Hp := (Entails.of_eq (rest_bar X c)) $$ Hpay
  iapply Hk
  isplitl [HO]; · unfold owing; iexists _; iexact HO
  isplitl [Hp]; · iexact Hp
  iexact Hat

/-- A cell whose round is over closes. -/
theorem close (k : Cl) : iprop(com X K ∗ atPos ER (cell c k) 1 ∅ 0) ⊢ (|={Set.univ}=> semVal (cell c k) 0 : sProp 𝕄) := by
  iintro ⟨#HC, Hat⟩
  imod (Rounds.cell_close ER (proto X) (Set.mem_univ (K (c, k))) (fun h => h) (R := 0 + 1) (duties_later X (cell c k))) $$ [Hat] with Hz
  · isplitr; · iapply (com_inv X K c k); iexact HC
    iexact Hat
  imodintro
  iexact Hz

theorem close_all : iprop(com X K ∗ bigSep Finset.univ fun k : Cl => atPos ER (cell c k) 1 ∅ 0)
    ⊢ (|={Set.univ}=> bigSep Finset.univ fun k : Cl => semVal (cell c k) 0 : sProp 𝕄) :=
  ((sep_mono_left (BI.bigSep_of_persistent Finset.univ (com X K))).trans
    (by rw [← bigSep_sep']; exact bigSep_mono fun k _ => close X K c k)).trans (bigSep_fupd _ _)

theorem toks_end : (iprop(atPos ER (cell c kB) 1 ∅ 0 ∗ bigSep Finset.univ fun p => toks p c 2) : sProp 𝕄)
    ⊢ bigSep Finset.univ fun k : Cl => atPos ER (cell c k) 1 ∅ 0 := by
  rw [over_cells]
  unfold toks
  rw [bigSep_sep', bigSep_sep']
  simp only [tkt, lcl]
  rw [bigSep_congr (s := Finset.univ) fun (p : Fin 12) _ => bigSep_sep' Finset.univ (fun i : Fin 6 => (atPos ER (cell c (kS p i)) 1 ∅ 0 : sProp 𝕄)) fun i => atPos ER (cell c (kR p i)) 1 ∅ 0,
    bigSep_sep']
  iintro ⟨HB, HX, ⟨HS, HR⟩, HO⟩
  isplitl [HB]; · iexact HB
  isplitl [HS]; · iexact HS
  isplitl [HR]; · iexact HR
  isplitl [HX] <;> iassumption

/-- A part before and after, with all that goes with it but its tokens. -/
def pIn (p : Fin 12) : sProp 𝕄 := iprop(bufs p c ∗ toks p c 0 ∗ inPart X p c ∗ anyh (n := 4096) c yout (offs p) (8 * U p))
def pOut (p : Fin 12) : sProp 𝕄 := iprop(bufs p c ∗ inPart X p c ∗ holds (n := 4096) c yout fullShare (offs p) (8 * U p) (yo X p c))

/-- The body. -/
theorem run_flat (W : Waits sig Unit) :
    iprop(com X K ∗ owes (c : Thread nD τ) (O₀ c) W ∗ (bigSep Finset.univ fun p => pIn X c p) ∗ barToks c
        ∗ cred (tallyAt (cell c kB) () 3) ∗ atPos ER (cell c kB) 0 ∅ 0)
      ⊢ iprop((iprop(owing ∅ c ∗ (bigSep Finset.univ fun k : Cl => semVal (cell c k) 0) ∗ bigSep Finset.univ fun p => pOut X c p) -∗ Q ⟨⟩)
        -∗ Runs c (flat c) Q) := by
  have h0 : (bigSep Finset.univ fun p => pIn X c p : sProp 𝕄) ⊢ iprop((bigSep Finset.univ fun p => lands p c) ∗ St X c fun _ => 0) := by
    unfold St
    rw [← bigSep_sep']
    exact bigSep_mono fun p _ => part_in X p c
  have h1 : (iprop(St X c (fun _ => 1) ∗ bigSep Finset.univ fun p => bag X p c dsts) : sProp 𝕄) ⊢ St X c fun _ => 2 := by
    unfold St
    rw [← bigSep_sep']
    refine bigSep_mono fun p _ => ?_
    show _ ⊢ (bag X p c (dsts ++ items 1) : sProp 𝕄)
    rw [bag_append]
    iintro ⟨H, H'⟩
    isplitl [H'] <;> iassumption
  have h2 : (St X c (fun _ => 14) : sProp 𝕄) ⊢ iprop((bigSep Finset.univ fun p => toks p c 2) ∗ bigSep Finset.univ fun p => pOut X c p) := by
    unfold St
    rw [← bigSep_sep']
    refine bigSep_mono fun p _ => (part_out X p c).trans ?_
    unfold pOut
    iintro ⟨H, H1, H2, H3⟩
    isplitl [H1]; · iexact H1
    isplitl [H]; · iexact H
    isplitl [H2] <;> iassumption
  unfold flat
  iintro ⟨#HC, HO, HP, Hbt, Hc, Hat⟩ Hk
  ihave HP := h0 $$ HP
  icases HP with ⟨HL, HS⟩
  iapply (run_first X K c _ (owes (c : Thread nD τ) (O₀ c) W)) $$ [HO HS]
  · isplitr; · iexact HC
    isplitl [HO] <;> iassumption
  iintro ⟨HO, HS⟩
  iapply (run_bar X K c _ W) $$ [HO HL Hbt Hc Hat]
  · isplitr; · iexact HC
    isplitl [HO]; · iexact HO
    isplitl [HL]; · iexact HL
    isplitl [Hbt]; · iexact Hbt
    isplitl [Hc] <;> iassumption
  iintro ⟨HO, HD, Hat⟩
  ihave HS := h1 $$ [HS HD]
  · isplitl [HS] <;> iassumption
  iapply (run_rest X K c _) $$ [HO HS]
  · isplitr; · iexact HC
    isplitl [HO] <;> iassumption
  iintro ⟨HO, HS⟩
  ihave HS := h2 $$ HS
  icases HS with ⟨HT, HP⟩
  ihave HT := (toks_end c) $$ [HT Hat]
  · isplitl [Hat] <;> iassumption
  imod (close_all X K c) $$ [HT] with Hz
  · isplitr; · iexact HC
    iexact HT
  iapply (show Q ⟨⟩ ⊢ Runs c (.ret ⟨⟩) Q from by unfold Runs; rw [wp_ret]; exact fupd_intro)
  iapply Hk
  isplitl [HO]; · iexact HO
  isplitl [Hz] <;> iassumption

end Device

end Cert.AllReduce

end
-- ==== Proof.Scratch.lean ====
/-
# The arrays and scratch buffers, by rows

What the launch hands over is whole buffers; the stages speak of rows. The scoped buffers are the twelve parts' eleven
each; the two arrays are cut into the parts' rows and put together again.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A whole buffer -/

/-- The rows of an array. -/
def rowsOf {n : ℕ} {e : EltTy} (v : (sh n).Idx → Elt F e) : Rows F e := fun r s =>
  if h : r < n ∧ s < 1024 then v (Fin.cases ⟨r, h.1⟩ (fun i => ⟨s, by fin_cases i; exact h.2⟩)) else Classical.arbitrary _

theorem rowsOf_at {n : ℕ} {e : EltTy} (v : (sh n).Idx → Elt F e) (i : (sh n).Idx) : rowsOf v (i 0).val (i 1).val = v i := by
  unfold rowsOf
  rw [dif_pos ⟨(i 0).isLt, (i 1).isLt⟩]
  congr 1
  funext a
  fin_cases a <;> rfl

theorem whole_rows (c : Dev nD) {sp : Space} {n : ℕ} {e : EltTy} (mr : Memref sig .tc sp (sh n) e) (hw : mr.IsWhole)
    (f : Buf (Elt F) (mr.view.loc (c : Thread nD τ))) :
    (mr.view.loc (c : Thread nD τ) ↦{fullShare} f : sProp 𝕄) = holds c mr fullShare 0 n (rowsOf (mr.view.read (Elt F) f)) := by
  rw [holds_eq c mr fullShare 0 n _ f fun i _ => (rowsOf_at _ i).symm, band_all, View.setOn_univ, hw.set_eq_univ]

theorem whole_any (c : Dev nD) {sp : Space} {n : ℕ} {e : EltTy} (mr : Memref sig .tc sp (sh n) e) (hw : mr.IsWhole) :
    (iprop(∃ f : Buf (Elt F) (mr.view.loc (c : Thread nD τ)), mr.view.loc (c : Thread nD τ) ↦{fullShare} f) : sProp 𝕄) = anyh c mr 0 n := by
  unfold anyh
  refine equal_of ?_ ?_
  · iintro ⟨%f, H⟩
    iexists rowsOf (mr.view.read (Elt F) f)
    iapply (Entails.of_eq (whole_rows c mr hw f)); iexact H
  · unfold holds
    rw [band_all, View.setOn_univ, hw.set_eq_univ]
    iintro ⟨%T, %f, -, H⟩
    iexists f; iexact H

/-- Held rows of a whole buffer are the buffer, with those contents. -/
theorem rows_whole (c : Dev nD) {sp : Space} {n : ℕ} {e : EltTy} (mr : Memref sig .tc sp (sh n) e) (hw : mr.IsWhole) (T : Rows F e) :
    (holds c mr fullShare 0 n T : sProp 𝕄)
      ⊢ iprop(∃ f : Buf (Elt F) (mr.view.loc (c : Thread nD τ)), ⌜∀ i, mr.view.read (Elt F) f i = T (i 0).val (i 1).val⌝
        ∗ mr.view.loc (c : Thread nD τ) ↦{fullShare} f) := by
  unfold holds
  rw [band_all, View.setOn_univ, hw.set_eq_univ]
  iintro ⟨%f, %hf, H⟩
  iexists f
  isplitr; · ipureintro; exact fun i => hf i (Finset.mem_univ i)
  iexact H

/-! ## The scratch buffers -/

/-- The buffers of a part, by number. -/
def bufR (p : Fin 12) : Fin 11 → Ref sig .tc
  | 0 => (xv p).view.ref | 1 => (ov p).view.ref | 2 => (s1 p).view.ref | 3 => (r1 p).view.ref | 4 => (ac p).view.ref | 5 => (s2 p).view.ref
  | 6 => (r2 p).view.ref | 7 => (s3 p).view.ref | 8 => (r3 p).view.ref | 9 => (gv p).view.ref | 10 => (g2 p).view.ref

theorem bufR_inj : Function.Injective fun x : Fin 12 × Fin 11 => bufR x.1 x.2 := by decide +kernel

set_option maxRecDepth 20000 in
theorem scoped_eq : (Finset.univ.filter fun b : Ref sig .tc => b.isScoped) \ Finset.univ.image (Pipeline.stageRef cfg0.spec)
    = Finset.univ.map ⟨fun x : Fin 12 × Fin 11 => bufR x.1 x.2, bufR_inj⟩ := by decide +kernel

theorem scratch_eq (c : Dev nD) : (Pipeline.scopedRest cfg0.spec c : sProp 𝕄) = bigSep Finset.univ fun p => bufs p c := by
  unfold Pipeline.scopedRest
  rw [scoped_eq, bigSep_map, bigSep_univ_prod]
  refine bigSep_congr fun p _ => ?_
  rw [bigSep_univ_eq_bigSepL [0, 1, 2, 3, 4, 5, 6, 7, 8, 9, 10] (by decide) (by decide)]
  unfold bufs
  rw [← whole_any c (xv p) (xv_whole p), ← whole_any c (ov p) (ov_whole p), ← whole_any c (s1 p) (s1_whole p), ← whole_any c (r1 p) (r1_whole p),
    ← whole_any c (ac p) (ac_whole p), ← whole_any c (s2 p) (s2_whole p), ← whole_any c (r2 p) (r2_whole p), ← whole_any c (s3 p) (s3_whole p),
    ← whole_any c (r3 p) (r3_whole p), ← whole_any c (gv p) (gv_whole p), ← whole_any c (g2 p) (g2_whole p)]
  rfl

/-! ## An array in parts -/

/-- Where the first `n` parts end. -/
def upto (n : ℕ) : ℕ := if n ≤ 8 then 384 * n else 3072 + 256 * (n - 8)

theorem upto_at : ∀ p : Fin 12, upto p.val = offs p ∧ upto (p.val + 1) = offs p + 8 * U p := by decide +kernel

theorem in_parts (c : Dev nD) {sp : Space} {N : ℕ} {e : EltTy} (mr : Memref sig .tc sp (sh N) e) (T : Rows F e) : ∀ n, n ≤ 12 → 0 < n →
    (holds c mr fullShare 0 (upto n) T : sProp 𝕄)
      = bigSep (Finset.univ.filter fun p : Fin 12 => p.val < n) fun p => holds c mr fullShare (offs p) (8 * U p) T
  | 0, _, h => absurd h (Nat.lt_irrefl 0)
  | 1, _, _ => by
    rw [show (Finset.univ.filter fun p : Fin 12 => p.val < 1) = {0} by decide, bigSep_singleton]
    rfl
  | n + 2, hn, _ => by
    have ih := in_parts c mr T (n + 1) (by omega) (by omega)
    have hs : (Finset.univ.filter fun p : Fin 12 => p.val < n + 2) = insert ⟨n + 1, by omega⟩ (Finset.univ.filter fun p : Fin 12 => p.val < n + 1) := by
      ext p
      simp only [Finset.mem_filter, Finset.mem_univ, _root_.true_and, Finset.mem_insert, Fin.ext_iff]
      omega
    obtain ⟨h1, h2⟩ := upto_at ⟨n + 1, by omega⟩
    rw [hs, bigSep_insert (by simp), ← ih, show upto (n + 2) = upto (n + 1) + 8 * U ⟨n + 1, by omega⟩ from h2.trans (by rw [← h1]), ← h1]
    refine equal_of ?_ ?_
    · refine (holds_split c mr fullShare 0 (upto (n + 1)) _ T).trans ?_
      rw [Nat.zero_add]
      show iprop(holds c mr fullShare 0 (upto (n + 1)) T ∗ holds c mr fullShare (upto (n + 1)) (8 * U ⟨n + 1, by omega⟩) T)
        ⊢ iprop(holds c mr fullShare (upto (n + 1)) (8 * U ⟨n + 1, by omega⟩) T ∗ holds c mr fullShare 0 (upto (n + 1)) T)
      iintro ⟨H, H'⟩
      isplitl [H'] <;> iassumption
    · refine BI.Entails.trans ?_ (holds_join c mr fullShare 0 (upto (n + 1)) _ T)
      rw [Nat.zero_add]
      show iprop(holds c mr fullShare (upto (n + 1)) (8 * U ⟨n + 1, by omega⟩) T ∗ holds c mr fullShare 0 (upto (n + 1)) T)
        ⊢ iprop(holds c mr fullShare 0 (upto (n + 1)) T ∗ holds c mr fullShare (upto (n + 1)) (8 * U ⟨n + 1, by omega⟩) T)
      iintro ⟨H, H'⟩
      isplitl [H'] <;> iassumption

theorem parts (c : Dev nD) {sp : Space} {e : EltTy} (mr : Memref sig .tc sp (sh 4096) e) (T : Rows F e) :
    (holds c mr fullShare 0 4096 T : sProp 𝕄) = bigSep Finset.univ fun p => holds c mr fullShare (offs p) (8 * U p) T := by
  have h := in_parts c mr T 12 le_rfl (by omega)
  rwa [show (Finset.univ.filter fun p : Fin 12 => p.val < 12) = Finset.univ by decide] at h

/-! ## The arrays -/

/-- The part a row lies in. -/
def partOf (r : ℕ) : Fin 12 := Fin.ofNat 12 (if r < 3072 then r / 384 else 8 + (r - 3072) / 256)

theorem partOf_at : ∀ (p : Fin 12) (r : ℕ), offs p ≤ r → r < offs p + 8 * U p → partOf r = p := by
  intro p r h h'
  have hp : ∀ q : Fin 12, (q.val < 8 ∧ offs q = 384 * q.val ∧ U q = 48) ∨ (8 ≤ q.val ∧ offs q = 3072 + 256 * (q.val - 8) ∧ U q = 32) := by decide
  have hlt := p.isLt
  apply Fin.ext
  show (if r < 3072 then r / 384 else 8 + (r - 3072) / 256) % 12 = p.val
  rcases hp p with ⟨h1, h2, h3⟩ | ⟨h1, h2, h3⟩
  · rw [if_pos (by omega)]; omega
  · rw [if_neg (by omega)]; omega

/-- The result array of device `c`. -/
def Y (X : Dev nD → Rows F .f32) (c : Dev nD) : Rows F .f32 := fun r s => yo X (partOf r) c r s

variable (X : Dev nD → Rows F .f32) (c : Dev nD)

theorem parts_in : (iprop((bigSep Finset.univ fun p => bufs p c) ∗ (bigSep Finset.univ fun p => toks p c 0) ∗ holds (n := 4096) c xin fullShare 0 4096 (X c)
      ∗ anyh (n := 4096) c yout 0 4096) : sProp 𝕄) ⊢ bigSep Finset.univ fun p => pIn X c p := by
  have hy : (anyh (n := 4096) c yout 0 4096 : sProp 𝕄) ⊢ bigSep Finset.univ fun p => anyh (n := 4096) c yout (offs p) (8 * U p) := by
    unfold anyh
    iintro ⟨%T, H⟩
    ihave H := (Entails.of_eq (parts c yout T)) $$ H
    iapply (show (bigSep Finset.univ fun p => holds (n := 4096) c yout fullShare (offs p) (8 * U p) T : sProp 𝕄)
      ⊢ bigSep Finset.univ fun p => anyh (n := 4096) c yout (offs p) (8 * U p) from
      bigSep_mono fun p _ => holds_any (n := 4096) c yout (offs p) (8 * U p) T)
    iexact H
  unfold pIn
  rw [bigSep_sep', bigSep_sep', bigSep_sep', parts c xin (X c)]
  iintro ⟨H1, H2, H3, H4⟩
  ihave H4 := hy $$ H4
  isplitl [H1]; · iexact H1
  isplitl [H2]; · iexact H2
  isplitl [H3]; · iexact H3
  iexact H4

theorem parts_out : (bigSep Finset.univ fun p => pOut X c p : sProp 𝕄)
    ⊢ iprop((bigSep Finset.univ fun p => bufs p c) ∗ holds (n := 4096) c xin fullShare 0 4096 (X c) ∗ holds (n := 4096) c yout fullShare 0 4096 (Y X c)) := by
  unfold pOut
  rw [bigSep_sep', bigSep_sep', parts c xin (X c), parts c yout (Y X c)]
  iintro ⟨H1, H2, H3⟩
  isplitl [H1]; · iexact H1
  isplitl [H2]; · iexact H2
  iapply (show (bigSep Finset.univ fun p => holds (n := 4096) c yout fullShare (offs p) (8 * U p) (yo X p c) : sProp 𝕄)
    ⊢ bigSep Finset.univ fun p => holds (n := 4096) c yout fullShare (offs p) (8 * U p) (Y X c) from
    bigSep_mono fun p _ => holds_congr (n := 4096) c yout fullShare (offs p) (8 * U p) (T := yo X p c) (T' := Y X c) fun i h h' => by
    show _ = yo X (partOf (i 0).val) c _ _
    rw [partOf_at p _ h h'])
  iexact H3

end Cert.AllReduce

end
-- ==== Proof.Deal.lean ====
/-
# Dealing the tokens and the credit

The launch makes every cell's invariant, position and duty tokens at once; each duty goes to the device that pays it.
The credit a device starts with is what the others owe its cells.
-/
module

public import proofs.«01_k».proof.Proof.Scratch
public import Idealize.ShloMosaic.Lib.Pipeline.Launch

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F .f32)

/-- Equal assertions entail one another. -/
theorem same {P Q : sProp 𝕄} (h : P = Q) : Idealize.SL.BI.Entails P Q := h ▸ Idealize.SL.BI.Entails.refl P

/-! ## Minting -/

def allCells : Finset (GSem nD τ sig) := Finset.univ.map ⟨fun x : Dev nD × Cl => cell x.1 x.2, cell_inj⟩

theorem tok_inj : Function.Injective fun x : (Dev nD × Cl) × Fin 3 => ((cell x.1.1 x.1.2, 0, x.2) : GSem nD τ sig × ℕ × Fin 3) := by
  rintro ⟨x, j⟩ ⟨y, j'⟩ h
  have h1 : x = y := cell_inj (congrArg (fun t : GSem nD τ sig × ℕ × Fin 3 => t.1) h)
  have h2 : j = j' := congrArg (fun t : GSem nD τ sig × ℕ × Fin 3 => t.2.2) h
  rw [h1, h2]

def allToks : Finset (GSem nD τ sig × ℕ × Fin 3) := Finset.univ.map ⟨_, tok_inj⟩

/-- The positions and the tokens of the cells of one device, as minted. -/
def poss (c : Dev nD) : sProp 𝕄 := bigSep Finset.univ fun k : Cl => atPos ER (cell c k) 0 ∅ 0
def minted (c : Dev nD) : sProp 𝕄 := bigSep Finset.univ fun k : Cl => bigSep Finset.univ fun j : Fin 3 => dutyTok ER (cell c k) 0 j

def pool (c : Dev nD) : sProp 𝕄 :=
  iprop((bigSep Finset.univ fun k : Cl => roundState ER (proto X) (cell c k) 0)
    ∗ (bigSep Finset.univ fun k : Cl => reached ER (cell c k) 0) ∗ poss c ∗ minted c)

theorem fund_all : BI.own (ER (initOf allCells allToks)) ⊢ (|==> bigSep Finset.univ (pool X) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod, bigSep_univ_prod]; rfl
  iintro HX
  imod (Rounds.fund ER (proto X) allCells allToks) $$ HX with ⟨Hst, Hr, Hat, Htok⟩
  imodintro
  ihave Hst' := (Entails.of_eq (hX fun g => roundState ER (proto X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold pool poss; simp only [bigSep_sep']
  isplitl [Hst']; · iexact Hst'
  isplitl [Hr']; · iexact Hr'
  isplitl [Hat'] <;> iassumption

/-! ## Dealing -/

/-- The tokens of the duties a device pays. -/
def paid (c : Dev nD) : sProp 𝕄 :=
  iprop(barToks c ∗ (bigSep Finset.univ fun p => bigSep Finset.univ fun i => dutyTok ER (cell c (kS p i)) 0 (0 : Fin 3))
    ∗ (bigSep Finset.univ fun p => bigSep Finset.univ fun i => dutyTok ER (cell (peer p i c) (kR p i)) 0 (0 : Fin 3))
    ∗ (bigSep Finset.univ fun p => dutyTok ER (cell c (kX p)) 0 (0 : Fin 3))
    ∗ bigSep Finset.univ fun p => bigSep Finset.univ fun k => dutyTok ER (cell c (kO p k)) 0 (0 : Fin 3))

/-- Direction `j` as a permutation of the devices. -/
def nbE (j : Fin 3) : Dev nD ≃ Dev nD := ⟨nb j, nb j, nb_nb j, nb_nb j⟩

theorem around (j : Fin 3) (Φ : Dev nD → sProp 𝕄) : bigSep Finset.univ Φ = bigSep Finset.univ fun c => Φ (nb j c) :=
  bigSep_univ_equiv (nbE j) Φ

theorem deal : (bigSep Finset.univ fun c : Dev nD => minted c : sProp 𝕄) ⊢ bigSep Finset.univ fun c : Dev nD => paid c := by
  have h1 : ∀ (c : Dev nD) (k : Cl), (bigSep Finset.univ fun j : Fin 3 => dutyTok ER (cell c k) 0 j : sProp 𝕄) ⊢ dutyTok ER (cell c k) 0 (0 : Fin 3) :=
    fun c k => bigSep_elim (Finset.mem_univ 0)
  have hb : (bigSep Finset.univ fun c : Dev nD => bigSep Finset.univ fun j : Fin 3 => dutyTok ER (cell c kB) 0 j : sProp 𝕄)
      = bigSep Finset.univ fun c : Dev nD => barToks c := by
    unfold barToks
    rw [bigSep_univ_comm, bigSep_univ_comm (fun (c : Dev nD) (j : Fin 3) => (dutyTok ER (cell (nb j c) kB) 0 j : sProp 𝕄))]
    exact bigSep_congr fun j _ => around j fun c => dutyTok ER (cell c kB) 0 j
  have hr : (bigSep Finset.univ fun c : Dev nD => bigSep Finset.univ fun p => bigSep Finset.univ fun i => dutyTok ER (cell c (kR p i)) 0 (0 : Fin 3) : sProp 𝕄)
      = bigSep Finset.univ fun c : Dev nD => bigSep Finset.univ fun p => bigSep Finset.univ fun i => dutyTok ER (cell (peer p i c) (kR p i)) 0 (0 : Fin 3) := by
    rw [bigSep_univ_comm, bigSep_univ_comm (fun (c : Dev nD) (p : Fin 12) => bigSep Finset.univ fun i => (dutyTok ER (cell (peer p i c) (kR p i)) 0 (0 : Fin 3) : sProp 𝕄))]
    refine bigSep_congr fun p _ => ?_
    rw [bigSep_univ_comm, bigSep_univ_comm (fun (c : Dev nD) (i : Fin 6) => (dutyTok ER (cell (peer p i c) (kR p i)) 0 (0 : Fin 3) : sProp 𝕄))]
    exact bigSep_congr fun i _ => around (dir p i) fun c => dutyTok ER (cell c (kR p i)) 0 (0 : Fin 3)
  have hd : ∀ c : Dev nD, (minted c : sProp 𝕄) ⊢ iprop((bigSep Finset.univ fun j : Fin 3 => dutyTok ER (cell c kB) 0 j)
      ∗ (bigSep Finset.univ fun p => bigSep Finset.univ fun i => dutyTok ER (cell c (kS p i)) 0 (0 : Fin 3))
      ∗ (bigSep Finset.univ fun p => bigSep Finset.univ fun i => dutyTok ER (cell c (kR p i)) 0 (0 : Fin 3))
      ∗ (bigSep Finset.univ fun p => dutyTok ER (cell c (kX p)) 0 (0 : Fin 3))
      ∗ bigSep Finset.univ fun p => bigSep Finset.univ fun k => dutyTok ER (cell c (kO p k)) 0 (0 : Fin 3)) := fun c => by
    unfold minted
    rw [over_cells]
    exact sep_mono (Idealize.SL.BI.Entails.refl _) (sep_mono (bigSep_mono fun p _ => bigSep_mono fun i _ => h1 c _) (sep_mono (bigSep_mono fun p _ => bigSep_mono fun i _ => h1 c _)
      (sep_mono (bigSep_mono fun p _ => h1 c _) (bigSep_mono fun p _ => bigSep_mono fun k _ => h1 c _))))
  refine (bigSep_mono fun c _ => hd c).trans (same (F := F) ?_)
  unfold paid
  rw [bigSep_sep', bigSep_sep', bigSep_sep', bigSep_sep', bigSep_sep', bigSep_sep', bigSep_sep', bigSep_sep', hb, hr]

/-! ## Every device its own -/

/-- What all devices share, but for the levels. -/
def shared (K : Dev nD × Cl → ℕ) : sProp 𝕄 :=
  iprop((bigSep Finset.univ fun x : Dev nD × Cl => cellInv ER (proto X) (K x) (cell x.1 x.2))
    ∗ bigSep Finset.univ fun x : Dev nD × Cl => reached ER (cell x.1 x.2) 0)

instance shared_persistent (K : Dev nD × Cl → ℕ) : BI.Persistent (shared X K : sProp 𝕄) := by unfold shared; infer_instance

def mine (c : Dev nD) : sProp 𝕄 := iprop(∃ K, shared X K ∗ poss c ∗ paid c)

theorem unscoped_eq (c : Dev nD) : (unscopedSems0 c : sProp 𝕄) = semVal (cell c kB) 0 := by
  unfold unscopedSems0; rw [bigSep_eq_bigSepL_of_eq [SemLoc.reg barS] (by decide +kernel) (by decide)]; rfl

theorem sems_eq (c : Dev nD) :
    iprop(unscopedSems0 c ∗ Pipeline.ownSems0 (Ix := Unit) (Name := ℕ) (U := UU) (Lvl := ℕ) (Val := Elt F) (τ := τ) osem c)
      = (bigSep Finset.univ fun k : Cl => semVal (cell c k) 0 : sProp 𝕄) := by
  rw [unscoped_eq, bigSep_univ_sum, show (Finset.univ : Finset Unit) = {()} from rfl, bigSep_singleton]
  rfl

theorem make (c : Dev nD) :
    iprop(Pipeline.ownSems0 (Ix := Unit) (Name := ℕ) (U := UU) (Lvl := ℕ) (Val := Elt F) (τ := τ) osem c ∗ unscopedSems0 c ∗ pool X c)
      ⊢ |={Set.univ}=> iprop((bigSep Finset.univ fun k => iprop(∃ κ : ℕ, cellInv ER (proto X) κ (cell c k)))
          ∗ (bigSep Finset.univ fun k : Cl => reached ER (cell c k) 0) ∗ poss c ∗ minted c) := by
  unfold pool
  iintro ⟨Hos, Hus, Hst, Hr, Hat, Htok⟩
  ihave Hv := (Entails.of_eq (sems_eq (F := F) c)) $$ [Hos Hus]
  · isplitl [Hus] <;> iassumption
  imod (show iprop((bigSep Finset.univ fun k : Cl => semVal (cell c k) 0) ∗ bigSep Finset.univ fun k : Cl => roundState ER (proto X) (cell c k) 0)
      ⊢ (|={Set.univ}=> bigSep Finset.univ fun k => iprop(∃ κ : ℕ, cellInv ER (proto X) κ (cell c k)) : sProp 𝕄) from by
        rw [← bigSep_sep']
        exact (bigSep_mono fun k _ => (Rounds.body_intro ER (proto X) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem share_out :
    (bigSep Finset.univ fun c : Dev nD => iprop((bigSep Finset.univ fun k => iprop(∃ κ : ℕ, cellInv ER (proto X) κ (cell c k)))
          ∗ (bigSep Finset.univ fun k : Cl => reached ER (cell c k) 0) ∗ poss c ∗ minted c) : sProp 𝕄)
      ⊢ bigSep Finset.univ (mine X) := by
  rw [bigSep_sep', bigSep_sep', bigSep_sep', ← bigSep_univ_prod (fun x : Dev nD × Cl => iprop(∃ κ : ℕ, cellInv ER (proto X) κ (cell x.1 x.2))),
    ← bigSep_univ_prod (fun x : Dev nD × Cl => (reached ER (cell x.1 x.2) 0 : sProp 𝕄))]
  iintro ⟨HI, #HR, Hat, Htok⟩
  ihave HK := (BI.bigSep_exists_pi Finset.univ (fun (x : Dev nD × Cl) (κ : ℕ) => (cellInv ER (proto X) κ (cell x.1 x.2) : sProp 𝕄))) $$ HI
  icases HK with ⟨%K, #HI⟩
  ihave Htk := (deal (F := F)) $$ Htok
  iapply (show iprop(shared X K ∗ bigSep Finset.univ fun c : Dev nD => iprop(poss c ∗ paid c)) ⊢ (bigSep Finset.univ (mine X) : sProp 𝕄) from
    (sep_mono_left (BI.bigSep_of_persistent Finset.univ (shared X K))).trans (by
      rw [← bigSep_sep']
      refine bigSep_mono fun c _ => ?_
      show iprop(shared X K ∗ poss c ∗ paid c) ⊢ iprop(∃ K, shared X K ∗ poss c ∗ paid c)
      iintro H
      iexists K; iexact H))
  isplitr
  · unfold shared
    isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ pool X c) : sProp 𝕄)
    ⊢ |={Set.univ}=> bigSep Finset.univ (mine X) :=
  ((bigSep_mono fun c _ => make X c).trans (bigSep_fupd _ _)).trans (BI.fupd_mono (share_out X))

/-! ## The credit -/

theorem tally_cell (c d : Dev nD) (k l : Cl) (n : ℕ) :
    (tallyAt (cell d l) () n : CellTallies nD τ sig Unit) (cell c k) () = if d = c ∧ l = k then n else 0 := by
  rw [tallyAt_apply]
  by_cases h : d = c ∧ l = k
  · obtain ⟨rfl, rfl⟩ := h
    rw [if_pos ⟨rfl, rfl⟩, if_pos ⟨rfl, rfl⟩]
  · rw [if_neg h, if_neg fun h' => h ?_]
    have := cell_inj (a₁ := (c, k)) (a₂ := (d, l)) h'.1
    exact ⟨(congrArg Prod.fst this).symm, (congrArg Prod.snd this).symm⟩

theorem owed_at (d c : Dev nD) (k : Cl) : O₀ d (cell c k) ()
    = (∑ x : Fin 12 × Fin 6, if peer x.1 x.2 d = c ∧ kR x.1 x.2 = k then amt x.1 x.2 else 0)
      + ∑ j : Fin 3, if nb j d = c ∧ kB = k then 1 else 0 := by
  unfold O₀ debt barDebt
  rw [Pi.add_apply, Finsupp.add_apply, Finset.sum_apply, Finsupp.finset_sum_apply, Finset.sum_apply, Finsupp.finset_sum_apply]
  simp only [tally_cell]

theorem only_nb (j : Fin 3) (c : Dev nD) (n : ℕ) : (∑ d : Dev nD, if nb j d = c then n else 0) = n := by
  rw [Finset.sum_eq_single (nb j c) (fun d _ hd => if_neg fun h => hd (by rw [← h, nb_nb])) fun h => absurd (Finset.mem_univ _) h, if_pos (nb_nb j c)]

theorem credit_bar (c : Dev nD) : ∑ d : Dev nD, O₀ d (cell c kB) () = 3 := by
  have h : ∀ d : Dev nD, O₀ d (cell c kB) () = ∑ j : Fin 3, if nb j d = c then 1 else 0 := fun d => by
    rw [owed_at, Finset.sum_eq_zero fun x _ => if_neg fun h => (nomatch h.2), Nat.zero_add]
    exact Finset.sum_congr rfl fun j _ => by simp only [_root_.and_true]
  rw [Finset.sum_congr rfl fun d _ => h d, Finset.sum_comm, Finset.sum_congr rfl fun j _ => only_nb j c 1]
  rfl

theorem credit_rcv (c : Dev nD) (p : Fin 12) (i : Fin 6) : ∑ d : Dev nD, O₀ d (cell c (kR p i)) () = amt p i := by
  have h : ∀ d : Dev nD, O₀ d (cell c (kR p i)) () = if nb (dir p i) d = c then amt p i else 0 := fun d => by
    rw [owed_at, Finset.sum_eq_zero (s := (Finset.univ : Finset (Fin 3))) fun j _ => if_neg fun h => (nomatch h.2), Nat.add_zero,
      Finset.sum_eq_single (p, i) (fun x _ hx => if_neg fun h => hx (Sum.inl.inj (Sum.inr.inj (Sum.inr.inj h.2)))) fun h => absurd (Finset.mem_univ _) h]
    simp only [_root_.and_true]
  rw [Finset.sum_congr rfl fun d _ => h d, only_nb]

/-- The cells others pay into. -/
def payees : Unit ⊕ (Fin 12 × Fin 6) → SemLoc sig
  | .inl _ => semOf kB
  | .inr x => semOf (kR x.1 x.2)

theorem payees_inj : Function.Injective payees := by
  rintro (⟨⟩ | ⟨p, i⟩) (⟨⟩ | ⟨q, j⟩) h
  · rfl
  · exact absurd (semOf_inj (a₁ := kB) (a₂ := kR q j) h) (by simp)
  · exact absurd (semOf_inj (a₁ := kR p i) (a₂ := kB) h) (by simp)
  · have h1 := semOf_inj (a₁ := kR p i) (a₂ := kR q j) h
    simp only [Sum.inr.injEq, Sum.inl.injEq] at h1
    rw [h1]

theorem credit (c : Dev nD) (k : Cl) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄)
    ⊢ iprop(cred (tallyAt (cell c kB) () 3) ∗ bigSep Finset.univ fun p => bigSep Finset.univ fun i => cred (tallyAt (cell c (kR p i)) () (amt p i))) := by
  unfold Pipeline.launchCred
  refine (bigSep_subset (Finset.subset_univ (Finset.univ.map ⟨payees, payees_inj⟩))).trans (same (F := F) ?_)
  rw [bigSep_map, bigSep_univ_sum, bigSep_univ_prod, show (Finset.univ : Finset Unit) = {()} from rfl, bigSep_singleton]
  show iprop(cred (tallyOn (cell c kB) (launchCredit (Pipeline.owing O₀) 0 (cell c kB)))
    ∗ bigSep Finset.univ fun p => bigSep Finset.univ fun i => cred (tallyOn (cell c (kR p i)) (launchCredit (Pipeline.owing O₀) 0 (cell c (kR p i))))) = _
  simp only [credit c kB 3 (credit_bar c), credit c (kR _ _) _ (credit_rcv c _ _)]

/-- The tokens and credit of a device, part by part. -/
theorem toks_start (c : Dev nD) : (iprop(poss c ∗ paid c ∗ bigSep Finset.univ fun p => bigSep Finset.univ fun i => cred (tallyAt (cell c (kR p i)) () (amt p i))) : sProp 𝕄)
    ⊢ iprop(atPos ER (cell c kB) 0 ∅ 0 ∗ barToks c ∗ bigSep Finset.univ fun p => toks p c 0) := by
  unfold poss paid toks
  rw [over_cells, bigSep_sep', bigSep_sep']
  simp only [tkt, lcl, bigSep_sep']
  iintro ⟨⟨HB, HS, HR, HX, HO⟩, ⟨Hb, Hs, Hr, Hx, Ho⟩, Hc⟩
  isplitl [HB]; · iexact HB
  isplitl [Hb]; · iexact Hb
  isplitl [Hx HX]
  · isplitl [Hx] <;> iassumption
  isplitr [Ho HO]
  · isplitl [Hs]; · iexact Hs
    isplitl [Hr]; · iexact Hr
    isplitl [HS]; · iexact HS
    isplitl [HR] <;> iassumption
  · isplitl [Ho] <;> iassumption

end Cert.AllReduce

end
-- ==== Proof.Launch.lean ====
/-
# The launch

The kernel's entry is one region with no windows: every device starts with its tokens, its credit, its input array and
any contents in its result array, and ends with its result array at `Y`, its input as it was and every semaphore at zero.
`run_main` is the run of the whole program on all eight devices.
-/
module

public import proofs.«01_k».proof.Proof.Deal
public import Idealize.ShloMosaic.Lib.Pipeline.Kit
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Mem

variable (m : (ℓ : Loc nD τ sig) → Buf (Elt F) ℓ)

/-- The devices' inputs, as rows. -/
def Xof (c : Dev nD) : Rows F .f32 := rowsOf (xin.view.read (Elt F) (m ((c : Thread nD τ).loc main_arg0)))

/-- The result array's contents as the run leaves them. -/
def Done (c : Dev nD) (f : Buf (Elt F) ((c : Thread nD τ).loc main_v1)) : Prop :=
  ∀ i, yout.view.read (Elt F) f i = Y (Xof m) c (i 0).val (i 1).val

/-! ## Before and after -/

def start (c : Dev nD) : sProp 𝕄 :=
  iprop((∃ K, com (Xof m) K) ∗ barToks c ∗ cred (tallyAt (cell c kB) () 3) ∗ atPos ER (cell c kB) 0 ∅ 0
    ∗ (bigSep Finset.univ fun p => toks p c 0) ∗ holds (n := 4096) c xin fullShare 0 4096 (Xof m c) ∗ anyh (n := 4096) c yout 0 4096)

def Φ₀ (c : Dev nD) : sProp 𝕄 :=
  iprop((∃ K, com (Xof m) K) ∗ barToks c ∗ cred (tallyAt (cell c kB) () 3) ∗ atPos ER (cell c kB) 0 ∅ 0
    ∗ bigSep Finset.univ fun p => pIn (Xof m) c p)

def Φ₁ (c : Dev nD) : sProp 𝕄 :=
  iprop((bigSep Finset.univ fun k : Cl => semVal (cell c k) 0) ∗ bigSep Finset.univ fun p => pOut (Xof m) c p)

/-- What a device ends with. -/
def ends (c : Dev nD) : sProp 𝕄 :=
  iprop(unscopedSems0 c ∗ ((c : Thread nD τ).loc main_arg0 ↦{fullShare} m ((c : Thread nD τ).loc main_arg0))
    ∗ ∃ f, ⌜Done m c f⌝ ∗ (c : Thread nD τ).loc main_v1 ↦{fullShare} f)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (Φ : Fin cfg0.W → sProp 𝕄) : (bigSep Finset.univ Φ : sProp 𝕄) = iprop(emp) := by
  rw [show (Finset.univ : Finset (Fin cfg0.W)) = ∅ from rfl, bigSep_empty]; rfl

theorem no_debt (c : Dev nD) : debt ∅ c = 0 := by unfold debt; rw [Finset.sum_empty]

/-- What the pipeline calls is the printed body. -/
theorem body_is (t : Fin cfg0.N) : defs₀ (F := F) .tc cfg0.body (cfg0.bodyArgs t (cfg0.slots t)) = .op .deviceId fun d => flat d :=
  Eq.trans (by chain_rfl) (body_flat t)

theorem body_runs (c : Dev nD) : BodyObligation (dats (F := F) m 0 c) (defs₀ (F := F)) 𝒱₀ () Set.univ := fun t => by
  rw [fin_N0 t, no_windows, no_windows, body_is, wp_deviceId]
  have hf : (dats m 0 c).Φ t0_0.castSucc = Φ₀ m c := rfl
  have hl : (dats m 0 c).Φ t0_0.succ = Φ₁ m c := rfl
  rw [hf, hl]
  unfold Dat.owesAt Pipeline.owesWithin Φ₀
  rw [show (dats m 0 c).owed t0_0.castSucc = O₀ c from rfl, show (dats m 0 c).owed t0_0.succ = 0 from rfl]
  iintro ⟨⟨⟨%K, Hcom⟩, Hb, Hc, Ha, Hp⟩, ⟨%W, %hW, HO⟩, -⟩
  iapply (run_flat (Xof m) K c W) $$ [Hcom Hb Hc Ha Hp HO]
  · isplitl [Hcom]; · iexact Hcom
    isplitl [HO]; · iexact HO
    isplitl [Hp]; · iexact Hp
    isplitl [Hb]; · iexact Hb
    isplitl [Hc] <;> iassumption
  unfold owing Φ₁
  rw [no_debt]
  iintro ⟨⟨%W', HO⟩, Hs, Hp⟩
  isplitl [Hs Hp]
  · isplitl [Hs] <;> iassumption
  isplitl [HO]
  · iexists W'
    isplitr; · ipureintro; exact fun _ _ => Or.inl trivial
    iexact HO
  iempintro

/-! ## The side conditions -/

theorem ownSemFacts : Pipeline.OwnSemFacts cfg0.spec osem where
  isScoped := by decide +kernel
  inj := fun a b h => Sum.inr.inj (semOf_inj (a₁ := .inr a) (a₂ := .inr b) h)
  disj := fun _ w => w.elim0

def u₀ : UU := (initOf (Pipeline.cells cfgs cellOf_inj) (Pipeline.launchToks cfgs cellOf_inj), initOf allCells allToks)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ mine (Xof m) c)
      ⊢ |={Set.univ}=> iprop(start m c ∗ emp) := by
  rw [Pipeline.unscopedRestP_none, unscopedRest0_eq]
  unfold mine shared
  iintro ⟨⟨Hx, Hy⟩, Hlev, Hcr, -, ⟨%K, ⟨HI, HR⟩, Hpos, Hpaid⟩⟩
  ihave Hc := (creds (F := F) c) $$ Hcr
  icases Hc with ⟨H3, Hcr⟩
  ihave Ht := (toks_start (F := F) c) $$ [Hpos Hpaid Hcr]
  · isplitl [Hpos]; · iexact Hpos
    isplitl [Hpaid] <;> iassumption
  icases Ht with ⟨Ha, Hb, Ht⟩
  imodintro
  isplitl
  · unfold start
    isplitl [HI HR Hlev]
    · iexists K
      unfold com
      isplitl [HI]; · iexact HI
      isplitl [HR] <;> iassumption
    isplitl [Hb]; · iexact Hb
    isplitl [H3]; · iexact H3
    isplitl [Ha]; · iexact Ha
    isplitl [Ht]; · iexact Ht
    isplitl [Hx]
    · iapply (Entails.of_eq (whole_rows c xin (Memref.isWhole_whole _) _)); iexact Hx
    · iapply (Entails.of_eq (whole_any c yout (Memref.isWhole_whole _)))
      iexists (m ((c : Thread nD τ).loc main_v1)); iexact Hy
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold start Φ₀
  iintro ⟨⟨HK, Hb, H3, Ha, Ht, Hx, Hy⟩, -, Hs⟩
  isplitl [HK]; · iexact HK
  isplitl [Hb]; · iexact Hb
  isplitl [H3]; · iexact H3
  isplitl [Ha]; · iexact Ha
  iapply (parts_in (Xof m) c)
  isplitl [Hs]; · iexact Hs
  isplitl [Ht]; · iexact Ht
  isplitl [Hx] <;> iassumption

theorem leave (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scratch_eq]
  unfold Φ₁ ends
  rw [← sems_eq]
  iintro ⟨⟨Hu, Ho⟩, Hp⟩
  ihave Hp := (parts_out (Xof m) c) $$ Hp
  icases Hp with ⟨Hb, Hx, Hy⟩
  ihave Hx := (show holds (n := 4096) c xin fullShare 0 4096 (Xof m c) ⊢ ((c : Thread nD τ).loc main_arg0 ↦{fullShare} m ((c : Thread nD τ).loc main_arg0) : sProp 𝕄) from
    Entails.of_eq (whole_rows c xin (Memref.isWhole_whole _) (m ((c : Thread nD τ).loc main_arg0))).symm) $$ Hx
  ihave Hy := (rows_whole c yout (Memref.isWhole_whole _) (Y (Xof m) c)) $$ Hy
  icases Hy with ⟨%f, %hf, Hy⟩
  isplitl [Hu Hx Hy]
  · isplitl [Hu]; · iexact Hu
    isplitl [Hx]; · iexact Hx
    iexists f
    isplitr; · ipureintro; exact hf
    iexact Hy
  isplitl [Ho] <;> iassumption

/-- What the run leaves on a device. -/
def Left (c : Dev nD) (s : MemSt nD τ sig (Elt F)) : Prop :=
  (s.mem ((c : Thread nD τ).loc main_arg0) = m ((c : Thread nD τ).loc main_arg0) ∧ Done m c (s.mem ((c : Thread nD τ).loc main_v1)))
    ∧ ∀ sm : SemLoc sig, sm.isScoped .tc = false → s.sem ((c.tc : Thread nD τ), sm) = 0

theorem read_out (c : Dev nD) (s' : Phys nD τ sig (Elt F)) :
    (iprop(ends m c ∗ emp ∗ SI s') : sProp 𝕄) ⊢ |={Set.univ}=> iprop(⌜Left m c s'.mem⌝ ∗ SI s') := by
  unfold ends
  iintro ⟨⟨Hu, Hx, ⟨%f, %hf, Hy⟩⟩, -, HSI⟩
  ihave %hx := (SI_pointsTo_agree) $$ [HSI Hx]
  · isplitl [HSI] <;> iassumption
  ihave %hy := (SI_pointsTo_agree) $$ [HSI Hy]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    have e : s'.mem.mem ((c : Thread nD τ).loc main_v1) = f := funext fun i => hy i (Finset.mem_univ i)
    exact ⟨⟨funext fun i => hx i (Finset.mem_univ i), by rw [e]; exact hf⟩, hs⟩
  iexact HSI

/-! ## The run -/

set_option maxRecDepth 40000 in
/-- From any memory with zero counters the eight devices' run ends, every result array at `Y`, every input as it was and
every semaphore at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ Done m c (r.2.mem ((c : Thread nD τ).loc main_v1))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_runs m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := fun _ h => if_neg h)
    (hwaits := fun c => Pipeline.cellsWaits_intro cfgs (dats m) () 0 c fun w => w.elim0)
    (G := pool (Xof m)) (G' := mine (Xof m)) (u₀ := u₀)
    (hu₀ := by
      unfold u₀
      iintro Hu
      ihave H := (ownU_pair _ _) $$ Hu
      icases H with ⟨HP, HX⟩
      imod (fund_all (Xof m)) $$ HX with HG
      imodintro
      isplitl [HP] <;> iassumption)
    (hglob := glob (Xof m))
    (hA := fun _ _ => rfl) (hpf := fun _ k => k.elim0)
    (X := start m) (Y := ends m) (Z := fun _ => iprop(emp))
    (hX := start_intro m ρ) (hin := enter m) (hout := leave m)
    (QY := Left m) (hY := read_out m)
    (hQ := fun _ h hs => ⟨fun c => (h c).2.2.1, sem_eq_zero hs fun c => (h c).2.2.2⟩)

end Mem

end Cert.AllReduce

end
-- ==== Proof.Frames.lean ====
/-
# The frames

Both readings of the kernel end with the input as it was and every semaphore at zero, by the one run; so does the
reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.AllReduce

open Idealize.ShloMosaic Idealize.SL.Sem

theorem frame_kernel : Cert.quiescent_Kernel := fun m ρ _ =>
  (θ_run Cert.KernelIdeal.defs _ _).mono (fun _ h => ⟨fun c => (h.1 c).1, h.2⟩) (run_main (F := Bits) m ρ)

theorem frame_kernelIdeal : Cert.quiescent_KernelIdeal := fun m ρ _ =>
  (θ_run Cert.KernelIdeal.defs _ _).mono (fun _ h => ⟨fun c => (h.1 c).1, h.2⟩) (run_main (F := Ideal) m ρ)

/-- The reference has no semaphores. -/
theorem frame_reference : Cert.quiescent_ReferenceIdeal := fun m ρ _ =>
  (θ_run Cert.ReferenceIdeal.defs _ _).mono (fun _ h => ⟨fun c => (h c).2, funext fun g => by
    obtain ⟨_, i | i⟩ := g <;> exact i.elim0⟩) (Cert.ReferenceIdeal.Value.run m ρ)

end Cert.AllReduce

end
-- ==== Proof.Exact.lean ====
/-
# The exact reading

Over the extended reals every change of format is the identity and sums may be taken in any order, so what each
device writes is the activation of the sum of all eight inputs, which is the reference's result.
-/
module

public import proofs.«01_k».proof.Defs
public import proofs.«01_k».proof.Proof.Launch
public import proofs.«01_k».proof.Proof.Gen.ReferenceIdeal.Run
public import Idealize.ShloMosaic.Lib.Pointwise

@[expose] public section

noncomputable section

namespace Cert.AllReduce

open Cert.KernelIdeal Cert.KernelIdeal.Gen
open Idealize.ShloMosaic Idealize.ShloMosaic.TcCoe Idealize.SL.Sem

/-! ## The kernel -/

/-- The activation. -/
def act (a : EReal) : EReal := Ideal.tanh a * a * a + max a 0 * max a 0 * max a 0

/-! Rounding to the wire's format and back changes nothing; the entrywise sum is the sum. -/

theorem tr1_exact (a : EReal) : tr1 (F := Ideal) a = a := rfl
theorem ex1_exact (a : EReal) : ex1 (F := Ideal) a = a := rfl
theorem ad1_exact (a b : EReal) : ad1 (F := Ideal) a b = a + b := rfl
/-- What is computed of one entry is its activation. -/
theorem fv1_exact (a : EReal) : fv1 (F := Ideal) a = act a := by
  unfold fv1 fv act
  simp [addf, mulf, maximumf, tanh, broadcast, Scalar.ofBits]

/-- The devices whose inputs meet on `c`, in the order they are added. -/
def order (p : Fin 12) (c : Dev nD) : List (Dev nD) :=
  [c, nb (j1 p) c, nb (j2 p) c, nb (j1 p) (nb (j2 p) c), nb (j3 p) c, nb (j1 p) (nb (j3 p) c), nb (j2 p) (nb (j3 p) c),
    nb (j1 p) (nb (j2 p) (nb (j3 p) c))]

/-- Every device occurs in that order, once. -/
theorem order_all : ∀ p c, (order p c).Nodup ∧ (order p c).toFinset = Finset.univ := by decide +kernel

variable (X : Dev nD → Rows Ideal .f32) (c : Dev nD)

/-- The sum of the eight inputs. -/
def total (r s : ℕ) : EReal := ∑ d : Dev nD, (X d r s : EReal)

/-- After the three exchanges a device holds, for its eighth of a part, the sum of all eight inputs. -/
theorem S3_exact (p : Fin 12) (r s : ℕ) : S3 X p c r s = total X (offs p + r) s := by
  have h : total X (offs p + r) s = ((order p c).map fun d => (X d (offs p + r) s : EReal)).sum := by
    unfold total
    rw [← (order_all p c).2, List.sum_toFinset _ (order_all p c).1]
  rw [h]
  unfold S3 t2 S2 t1 S1 t0 xw
  simp only [tr1_exact, ad1_exact, order, List.map_cons, List.map_nil, List.sum_cons, List.sum_nil, add_zero]
  simp only [add_assoc]

/-- The part of a row begins at or before that row. -/
theorem offs_le (r : ℕ) (hr : r < 4096) : offs (partOf r) ≤ r := by
  have hp : ∀ q : Fin 12, (q.val < 8 ∧ offs q = 384 * q.val) ∨ (8 ≤ q.val ∧ offs q = 3072 + 256 * (q.val - 8)) := by decide
  have hv : (partOf r).val = (if r < 3072 then r / 384 else 8 + (r - 3072) / 256) % 12 := rfl
  rcases hp (partOf r) with ⟨h1, h2⟩ | ⟨h1, h2⟩ <;> rw [h2] <;> split at hv <;> omega

/-- The result, row by row, is the activation of the sum of all eight inputs. -/
theorem Y_exact (r s : ℕ) (hr : r < 4096) : Y X c r s = act (total X r s) := by
  have h1 := offs_le r hr
  have hG : ∀ d, G X (partOf r) d (r - offs (partOf r)) s = act (total X r s) := fun d => by
    unfold G
    rw [fv1_exact, S3_exact, Nat.add_sub_cancel' h1]
  unfold Y yo yv
  split
  · exact hG c
  · unfold tg
    rw [ex1_exact, tr1_exact]
    exact hG _

/-! ## The reference -/

/-- The reference's sum over the leading axis adds the eight devices' blocks of the whole array. -/
theorem sum_at (v : (⟨2, ![32768, 1024]⟩ : Shape).Idx → EReal) (i : (⟨2, ![4096, 1024]⟩ : Shape).Idx) :
    Host.reduceAdd (F := Ideal) (φ := .f32) (shapeCast Cert.ReferenceIdeal.S8x4096x1024 v Cert.ReferenceIdeal.Gen.shapeCasts_S32768x1024_S8x4096x1024)
      (constant Cert.ReferenceIdeal.S_ .f32 0x00000000#32) Cert.ReferenceIdeal.Gen.reducesTo_S8x4096x1024_S4096x1024_d0 Cert.ReferenceIdeal.Gen.h_S_ i
      = ∑ d : Fin 8, Layout.block ⟨2, ![4096, 1024]⟩ ⟨2, ![32768, 1024]⟩ 0 8 d v (by decide) i := by
  pointwise
  refine Finset.sum_congr rfl fun d _ => congrArg v (funext fun a => Fin.ext ?_)
  fin_cases a <;> rfl

/-! ## The two agree -/

/-- Where the inputs are the blocks of one whole array, the kernel's result is the activation of the reference's sum. -/
theorem meets (m : (ℓ : Loc nD τ sig) → Buf (Elt Ideal) ℓ) (v : (⟨2, ![32768, 1024]⟩ : Shape).Idx → EReal)
    (hm : ∀ d : Dev nD, m ((d : Thread nD τ).loc main_arg0) = Layout.block ⟨2, ![4096, 1024]⟩ ⟨2, ![32768, 1024]⟩ 0 8 d v)
    (c : Dev nD) (i : (⟨2, ![4096, 1024]⟩ : Shape).Idx) :
    Y (Xof m) c (i 0).val (i 1).val = act (Host.reduceAdd (F := Ideal) (φ := .f32)
      (shapeCast Cert.ReferenceIdeal.S8x4096x1024 v Cert.ReferenceIdeal.Gen.shapeCasts_S32768x1024_S8x4096x1024)
      (constant Cert.ReferenceIdeal.S_ .f32 0x00000000#32) Cert.ReferenceIdeal.Gen.reducesTo_S8x4096x1024_S4096x1024_d0 Cert.ReferenceIdeal.Gen.h_S_ i) := by
  rw [Y_exact (Xof m) c _ _ (i 0).isLt, sum_at]
  exact congrArg act (Finset.sum_congr rfl fun d _ =>
    (rowsOf_at (F := Ideal) (n := 4096) (e := .f32) _ i).trans (congrFun (hm d) i))

/-- The zero word is the number zero. -/
theorem zero_at : FloatOps.ofBits (F := Ideal) .f32 0x00000000#32 = (0 : EReal) := by simp

/-- Kernel and reference compute the same function over the extended reals, on every device. -/
theorem algebraic : Cert.algebraic_KernelIdeal_ReferenceIdeal := fun m ρ m' ρ' _ hm => by
  refine ⟨_, (θ_run Cert.KernelIdeal.defs _ _).mono (fun r h c => ⟨?_, (h.1 c).1⟩) (run_main (F := Ideal) m ρ),
    (θ_run Cert.ReferenceIdeal.defs _ _).mono (fun _ h => h 0) (Cert.ReferenceIdeal.Value.run m' ρ')⟩
  refine funext fun i => ((h.1 c).2 i).trans ((meets m _ hm c i).trans ?_)
  generalize hS : Host.reduceAdd (F := Ideal) (φ := .f32) _ _ _ _ = S
  show act (S i) = Ideal.tanh (S i) * S i * S i + max (S i) (FloatOps.ofBits (F := Ideal) .f32 0x00000000#32) * max (S i) (FloatOps.ofBits (F := Ideal) .f32 0x00000000#32) * max (S i) (FloatOps.ofBits (F := Ideal) .f32 0x00000000#32)
  rw [zero_at]
  rfl

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Exact
public import Idealize.ShloMosaic.Adequacy
public import Idealize.ShloMosaic.Init

@[expose] public section

noncomputable section

namespace Cert.Proof

open Idealize.ShloMosaic Idealize.SL.Sem Cert.Kernel

/-- The three frames, the trivial `preserves` (no rewrites), and the equality of kernel and reference. -/
theorem claim : Cert.Claim :=
  ⟨Cert.Kernel.Gen.facts, Cert.KernelIdeal.Gen.facts, Cert.ReferenceIdeal.Gen.facts, Cert.AllReduce.frame_kernel,
    Cert.AllReduce.frame_kernelIdeal, Cert.AllReduce.frame_reference, trivial, Cert.AllReduce.algebraic⟩

end Cert.Proof

end
